-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mop (m : (ℓ : Loc Cert.Mop.nD Cert.Mop.τ Cert.Mop.sig) → Buf (Elt Bits) ℓ) : Prop :=
  True

def Pre_MopIdeal (m : (ℓ : Loc Cert.MopIdeal.nD Cert.MopIdeal.τ Cert.MopIdeal.sig) → Buf (Elt Ideal) ℓ) : Prop :=
  True

def Pre_MopRefIdeal (m : (ℓ : Loc Cert.MopRefIdeal.nD Cert.MopRefIdeal.τ Cert.MopRefIdeal.sig) → Buf (Elt Ideal) ℓ) : Prop :=
  True

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Cmp (m : (ℓ : Loc Cert.Cmp.nD Cert.Cmp.τ Cert.Cmp.sig) → Buf (Elt Bits) ℓ) : Prop :=
  True

def Pre_CmpIdeal (m : (ℓ : Loc Cert.CmpIdeal.nD Cert.CmpIdeal.τ Cert.CmpIdeal.sig) → Buf (Elt Ideal) ℓ) : Prop :=
  True

def Pre_CmpIdeal_finite_keys [hPre_finite_keys : Cert.Pre_finite_keys.Facts] (m : (ℓ : Loc Cert.CmpIdeal.nD Cert.CmpIdeal.τ Cert.CmpIdeal.sig) → Buf (Elt Ideal) ℓ) : Prop :=
  ∀ c : Dev Cert.CmpIdeal.nD,
    (Cert.Pre_finite_keys.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).1 = (fun _ => 1#1)
    ∧ (Cert.Pre_finite_keys.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.1 = (fun _ => 1#1)
    ∧ (Cert.Pre_finite_keys.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.2.1 = (fun _ => 1#1)
    ∧ (Cert.Pre_finite_keys.fn (F := Ideal) (m ((c.tc : Thread Cert.CmpIdeal.nD Cert.CmpIdeal.τ).loc Cert.CmpIdeal.main_arg0)) (m ((c.tc : Thread Cert.CmpIdeal.nD Cert.CmpIdeal.τ).loc Cert.CmpIdeal.main_arg1)) (m ((c.tc : Thread Cert.CmpIdeal.nD Cert.CmpIdeal.τ).loc Cert.CmpIdeal.main_arg2)) (m ((c.tc : Thread Cert.CmpIdeal.nD Cert.CmpIdeal.τ).loc Cert.CmpIdeal.main_arg3)) (m ((c.tc : Thread Cert.CmpIdeal.nD Cert.CmpIdeal.τ).loc Cert.CmpIdeal.main_arg4)) (m ((c.tc : Thread Cert.CmpIdeal.nD Cert.CmpIdeal.τ).loc Cert.CmpIdeal.main_arg5)) (m ((c.tc : Thread Cert.CmpIdeal.nD Cert.CmpIdeal.τ).loc Cert.CmpIdeal.main_arg6)) (m ((c.tc : Thread Cert.CmpIdeal.nD Cert.CmpIdeal.τ).loc Cert.CmpIdeal.main_arg7))).2.2.2 = (fun _ => 1#1)

def Pre_CmpRefIdeal (m : (ℓ : Loc Cert.CmpRefIdeal.nD Cert.CmpRefIdeal.τ Cert.CmpRefIdeal.sig) → Buf (Elt Ideal) ℓ) : Prop :=
  True

def Pre_CmpRefIdeal_finite_keys [hPre_finite_keys : Cert.Pre_finite_keys.Facts] (m : (ℓ : Loc Cert.CmpRefIdeal.nD Cert.CmpRefIdeal.τ Cert.CmpRefIdeal.sig) → Buf (Elt Ideal) ℓ) : Prop :=
  ∀ c : Dev Cert.CmpRefIdeal.nD,
    (Cert.Pre_finite_keys.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).1 = (fun _ => 1#1)
    ∧ (Cert.Pre_finite_keys.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.1 = (fun _ => 1#1)
    ∧ (Cert.Pre_finite_keys.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.2.1 = (fun _ => 1#1)
    ∧ (Cert.Pre_finite_keys.fn (F := Ideal) (m ((c.tc : Thread Cert.CmpRefIdeal.nD Cert.CmpRefIdeal.τ).loc Cert.CmpRefIdeal.main_arg0)) (m ((c.tc : Thread Cert.CmpRefIdeal.nD Cert.CmpRefIdeal.τ).loc Cert.CmpRefIdeal.main_arg1)) (m ((c.tc : Thread Cert.CmpRefIdeal.nD Cert.CmpRefIdeal.τ).loc Cert.CmpRefIdeal.main_arg2)) (m ((c.tc : Thread Cert.CmpRefIdeal.nD Cert.CmpRefIdeal.τ).loc Cert.CmpRefIdeal.main_arg3)) (m ((c.tc : Thread Cert.CmpRefIdeal.nD Cert.CmpRefIdeal.τ).loc Cert.CmpRefIdeal.main_arg4)) (m ((c.tc : Thread Cert.CmpRefIdeal.nD Cert.CmpRefIdeal.τ).loc Cert.CmpRefIdeal.main_arg5)) (m ((c.tc : Thread Cert.CmpRefIdeal.nD Cert.CmpRefIdeal.τ).loc Cert.CmpRefIdeal.main_arg6)) (m ((c.tc : Thread Cert.CmpRefIdeal.nD Cert.CmpRefIdeal.τ).loc Cert.CmpRefIdeal.main_arg7))).2.2.2 = (fun _ => 1#1)

def Pre_Rwkv (m : (ℓ : Loc Cert.Rwkv.nD Cert.Rwkv.τ Cert.Rwkv.sig) → Buf (Elt Bits) ℓ) : Prop :=
  True

def Pre_RwkvIdeal (m : (ℓ : Loc Cert.RwkvIdeal.nD Cert.RwkvIdeal.τ Cert.RwkvIdeal.sig) → Buf (Elt Ideal) ℓ) : Prop :=
  True

def Pre_RwkvRefIdeal (m : (ℓ : Loc Cert.RwkvRefIdeal.nD Cert.RwkvRefIdeal.τ Cert.RwkvRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mop [hMop : Cert.Mop.Facts] : Prop :=
  ∀ (m : (ℓ : Loc Cert.Mop.nD Cert.Mop.τ Cert.Mop.sig) → Buf (Elt Bits) ℓ) (g : Dev Cert.Mop.nD → PrngReg), Pre_Mop m →
    θ_run (Cert.Mop.defs (F := Bits)) (onTc (τ := Cert.Mop.τ) (Cert.Mop.main (F := Bits))) ⟨m, fun _ => 0, g⟩ (fun r => (∀ c : Dev Cert.Mop.nD,
      r.2.mem ((c.tc : Thread Cert.Mop.nD Cert.Mop.τ).loc Cert.Mop.main_arg0) = m ((c.tc : Thread Cert.Mop.nD Cert.Mop.τ).loc Cert.Mop.main_arg0)
      ∧ r.2.mem ((c.tc : Thread Cert.Mop.nD Cert.Mop.τ).loc Cert.Mop.main_arg1) = m ((c.tc : Thread Cert.Mop.nD Cert.Mop.τ).loc Cert.Mop.main_arg1)
      ∧ r.2.mem ((c.tc : Thread Cert.Mop.nD Cert.Mop.τ).loc Cert.Mop.main_arg2) = m ((c.tc : Thread Cert.Mop.nD Cert.Mop.τ).loc Cert.Mop.main_arg2)
      ∧ r.2.mem ((c.tc : Thread Cert.Mop.nD Cert.Mop.τ).loc Cert.Mop.main_arg3) = m ((c.tc : Thread Cert.Mop.nD Cert.Mop.τ).loc Cert.Mop.main_arg3)
      ∧ r.2.mem ((c.tc : Thread Cert.Mop.nD Cert.Mop.τ).loc Cert.Mop.main_arg4) = m ((c.tc : Thread Cert.Mop.nD Cert.Mop.τ).loc Cert.Mop.main_arg4)
      ∧ r.2.mem ((c.tc : Thread Cert.Mop.nD Cert.Mop.τ).loc Cert.Mop.main_arg5) = m ((c.tc : Thread Cert.Mop.nD Cert.Mop.τ).loc Cert.Mop.main_arg5)
      ∧ r.2.mem ((c.tc : Thread Cert.Mop.nD Cert.Mop.τ).loc Cert.Mop.main_arg6) = m ((c.tc : Thread Cert.Mop.nD Cert.Mop.τ).loc Cert.Mop.main_arg6)
      ∧ r.2.mem ((c.tc : Thread Cert.Mop.nD Cert.Mop.τ).loc Cert.Mop.main_arg7) = m ((c.tc : Thread Cert.Mop.nD Cert.Mop.τ).loc Cert.Mop.main_arg7)
      ∧ r.2.mem ((c.tc : Thread Cert.Mop.nD Cert.Mop.τ).loc Cert.Mop.main_arg8) = m ((c.tc : Thread Cert.Mop.nD Cert.Mop.τ).loc Cert.Mop.main_arg8))
      ∧ r.2.sem = fun _ => 0)

def quiescent_MopIdeal [hMopIdeal : Cert.MopIdeal.Facts] : Prop :=
  ∀ (m : (ℓ : Loc Cert.MopIdeal.nD Cert.MopIdeal.τ Cert.MopIdeal.sig) → Buf (Elt Ideal) ℓ) (g : Dev Cert.MopIdeal.nD → PrngReg), Pre_MopIdeal m →
    θ_run (Cert.MopIdeal.defs (F := Ideal)) (onTc (τ := Cert.MopIdeal.τ) (Cert.MopIdeal.main (F := Ideal))) ⟨m, fun _ => 0, g⟩ (fun r => (∀ c : Dev Cert.MopIdeal.nD,
      r.2.mem ((c.tc : Thread Cert.MopIdeal.nD Cert.MopIdeal.τ).loc Cert.MopIdeal.main_arg0) = m ((c.tc : Thread Cert.MopIdeal.nD Cert.MopIdeal.τ).loc Cert.MopIdeal.main_arg0)
      ∧ r.2.mem ((c.tc : Thread Cert.MopIdeal.nD Cert.MopIdeal.τ).loc Cert.MopIdeal.main_arg1) = m ((c.tc : Thread Cert.MopIdeal.nD Cert.MopIdeal.τ).loc Cert.MopIdeal.main_arg1)
      ∧ r.2.mem ((c.tc : Thread Cert.MopIdeal.nD Cert.MopIdeal.τ).loc Cert.MopIdeal.main_arg2) = m ((c.tc : Thread Cert.MopIdeal.nD Cert.MopIdeal.τ).loc Cert.MopIdeal.main_arg2)
      ∧ r.2.mem ((c.tc : Thread Cert.MopIdeal.nD Cert.MopIdeal.τ).loc Cert.MopIdeal.main_arg3) = m ((c.tc : Thread Cert.MopIdeal.nD Cert.MopIdeal.τ).loc Cert.MopIdeal.main_arg3)
      ∧ r.2.mem ((c.tc : Thread Cert.MopIdeal.nD Cert.MopIdeal.τ).loc Cert.MopIdeal.main_arg4) = m ((c.tc : Thread Cert.MopIdeal.nD Cert.MopIdeal.τ).loc Cert.MopIdeal.main_arg4)
      ∧ r.2.mem ((c.tc : Thread Cert.MopIdeal.nD Cert.MopIdeal.τ).loc Cert.MopIdeal.main_arg5) = m ((c.tc : Thread Cert.MopIdeal.nD Cert.MopIdeal.τ).loc Cert.MopIdeal.main_arg5)
      ∧ r.2.mem ((c.tc : Thread Cert.MopIdeal.nD Cert.MopIdeal.τ).loc Cert.MopIdeal.main_arg6) = m ((c.tc : Thread Cert.MopIdeal.nD Cert.MopIdeal.τ).loc Cert.MopIdeal.main_arg6)
      ∧ r.2.mem ((c.tc : Thread Cert.MopIdeal.nD Cert.MopIdeal.τ).loc Cert.MopIdeal.main_arg7) = m ((c.tc : Thread Cert.MopIdeal.nD Cert.MopIdeal.τ).loc Cert.MopIdeal.main_arg7)
      ∧ r.2.mem ((c.tc : Thread Cert.MopIdeal.nD Cert.MopIdeal.τ).loc Cert.MopIdeal.main_arg8) = m ((c.tc : Thread Cert.MopIdeal.nD Cert.MopIdeal.τ).loc Cert.MopIdeal.main_arg8))
      ∧ r.2.sem = fun _ => 0)

def quiescent_MopRefIdeal [hMopRefIdeal : Cert.MopRefIdeal.Facts] : Prop :=
  ∀ (m : (ℓ : Loc Cert.MopRefIdeal.nD Cert.MopRefIdeal.τ Cert.MopRefIdeal.sig) → Buf (Elt Ideal) ℓ) (g : Dev Cert.MopRefIdeal.nD → PrngReg), Pre_MopRefIdeal m →
    θ_run (Cert.MopRefIdeal.defs (F := Ideal)) (onTc (τ := Cert.MopRefIdeal.τ) (Cert.MopRefIdeal.main (F := Ideal))) ⟨m, fun _ => 0, g⟩ (fun r => (∀ c : Dev Cert.MopRefIdeal.nD,
      r.2.mem ((c.tc : Thread Cert.MopRefIdeal.nD Cert.MopRefIdeal.τ).loc Cert.MopRefIdeal.main_arg0) = m ((c.tc : Thread Cert.MopRefIdeal.nD Cert.MopRefIdeal.τ).loc Cert.MopRefIdeal.main_arg0)
      ∧ r.2.mem ((c.tc : Thread Cert.MopRefIdeal.nD Cert.MopRefIdeal.τ).loc Cert.MopRefIdeal.main_arg1) = m ((c.tc : Thread Cert.MopRefIdeal.nD Cert.MopRefIdeal.τ).loc Cert.MopRefIdeal.main_arg1)
      ∧ r.2.mem ((c.tc : Thread Cert.MopRefIdeal.nD Cert.MopRefIdeal.τ).loc Cert.MopRefIdeal.main_arg2) = m ((c.tc : Thread Cert.MopRefIdeal.nD Cert.MopRefIdeal.τ).loc Cert.MopRefIdeal.main_arg2)
      ∧ r.2.mem ((c.tc : Thread Cert.MopRefIdeal.nD Cert.MopRefIdeal.τ).loc Cert.MopRefIdeal.main_arg3) = m ((c.tc : Thread Cert.MopRefIdeal.nD Cert.MopRefIdeal.τ).loc Cert.MopRefIdeal.main_arg3)
      ∧ r.2.mem ((c.tc : Thread Cert.MopRefIdeal.nD Cert.MopRefIdeal.τ).loc Cert.MopRefIdeal.main_arg4) = m ((c.tc : Thread Cert.MopRefIdeal.nD Cert.MopRefIdeal.τ).loc Cert.MopRefIdeal.main_arg4)
      ∧ r.2.mem ((c.tc : Thread Cert.MopRefIdeal.nD Cert.MopRefIdeal.τ).loc Cert.MopRefIdeal.main_arg5) = m ((c.tc : Thread Cert.MopRefIdeal.nD Cert.MopRefIdeal.τ).loc Cert.MopRefIdeal.main_arg5)
      ∧ r.2.mem ((c.tc : Thread Cert.MopRefIdeal.nD Cert.MopRefIdeal.τ).loc Cert.MopRefIdeal.main_arg6) = m ((c.tc : Thread Cert.MopRefIdeal.nD Cert.MopRefIdeal.τ).loc Cert.MopRefIdeal.main_arg6)
      ∧ r.2.mem ((c.tc : Thread Cert.MopRefIdeal.nD Cert.MopRefIdeal.τ).loc Cert.MopRefIdeal.main_arg7) = m ((c.tc : Thread Cert.MopRefIdeal.nD Cert.MopRefIdeal.τ).loc Cert.MopRefIdeal.main_arg7)
      ∧ r.2.mem ((c.tc : Thread Cert.MopRefIdeal.nD Cert.MopRefIdeal.τ).loc Cert.MopRefIdeal.main_arg8) = m ((c.tc : Thread Cert.MopRefIdeal.nD Cert.MopRefIdeal.τ).loc Cert.MopRefIdeal.main_arg8))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Cmp [hCmp : Cert.Cmp.Facts] : Prop :=
  ∀ (m : (ℓ : Loc Cert.Cmp.nD Cert.Cmp.τ Cert.Cmp.sig) → Buf (Elt Bits) ℓ) (g : Dev Cert.Cmp.nD → PrngReg), Pre_Cmp m →
    θ_run (Cert.Cmp.defs (F := Bits)) (onTc (τ := Cert.Cmp.τ) (Cert.Cmp.main (F := Bits))) ⟨m, fun _ => 0, g⟩ (fun r => (∀ c : Dev Cert.Cmp.nD,
      r.2.mem ((c.tc : Thread Cert.Cmp.nD Cert.Cmp.τ).loc Cert.Cmp.main_arg0) = m ((c.tc : Thread Cert.Cmp.nD Cert.Cmp.τ).loc Cert.Cmp.main_arg0)
      ∧ r.2.mem ((c.tc : Thread Cert.Cmp.nD Cert.Cmp.τ).loc Cert.Cmp.main_arg1) = m ((c.tc : Thread Cert.Cmp.nD Cert.Cmp.τ).loc Cert.Cmp.main_arg1)
      ∧ r.2.mem ((c.tc : Thread Cert.Cmp.nD Cert.Cmp.τ).loc Cert.Cmp.main_arg2) = m ((c.tc : Thread Cert.Cmp.nD Cert.Cmp.τ).loc Cert.Cmp.main_arg2)
      ∧ r.2.mem ((c.tc : Thread Cert.Cmp.nD Cert.Cmp.τ).loc Cert.Cmp.main_arg3) = m ((c.tc : Thread Cert.Cmp.nD Cert.Cmp.τ).loc Cert.Cmp.main_arg3)
      ∧ r.2.mem ((c.tc : Thread Cert.Cmp.nD Cert.Cmp.τ).loc Cert.Cmp.main_arg4) = m ((c.tc : Thread Cert.Cmp.nD Cert.Cmp.τ).loc Cert.Cmp.main_arg4)
      ∧ r.2.mem ((c.tc : Thread Cert.Cmp.nD Cert.Cmp.τ).loc Cert.Cmp.main_arg5) = m ((c.tc : Thread Cert.Cmp.nD Cert.Cmp.τ).loc Cert.Cmp.main_arg5)
      ∧ r.2.mem ((c.tc : Thread Cert.Cmp.nD Cert.Cmp.τ).loc Cert.Cmp.main_arg6) = m ((c.tc : Thread Cert.Cmp.nD Cert.Cmp.τ).loc Cert.Cmp.main_arg6)
      ∧ r.2.mem ((c.tc : Thread Cert.Cmp.nD Cert.Cmp.τ).loc Cert.Cmp.main_arg7) = m ((c.tc : Thread Cert.Cmp.nD Cert.Cmp.τ).loc Cert.Cmp.main_arg7))
      ∧ r.2.sem = fun _ => 0)

def quiescent_CmpIdeal [hCmpIdeal : Cert.CmpIdeal.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpIdeal_pre_finite_keys [hCmpIdeal : Cert.CmpIdeal.Facts] [hPre_finite_keys : Cert.Pre_finite_keys.Facts] : Prop :=
  ∀ (m : (ℓ : Loc Cert.CmpIdeal.nD Cert.CmpIdeal.τ Cert.CmpIdeal.sig) → Buf (Elt Ideal) ℓ) (g : Dev Cert.CmpIdeal.nD → PrngReg), Pre_CmpIdeal_finite_keys m →
    θ_run (Cert.CmpIdeal.defs (F := Ideal)) (onTc (τ := Cert.CmpIdeal.τ) (Cert.CmpIdeal.main (F := Ideal))) ⟨m, fun _ => 0, g⟩ (fun r => (∀ c : Dev Cert.CmpIdeal.nD,
      r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
      ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
      ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
      ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
      ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
      ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
      ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
      ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ r.2.sem = fun _ => 0)

def quiescent_CmpRefIdeal [hCmpRefIdeal : Cert.CmpRefIdeal.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def quiescent_CmpRefIdeal_pre_finite_keys [hCmpRefIdeal : Cert.CmpRefIdeal.Facts] [hPre_finite_keys : Cert.Pre_finite_keys.Facts] : Prop :=
  ∀ (m : (ℓ : Loc Cert.CmpRefIdeal.nD Cert.CmpRefIdeal.τ Cert.CmpRefIdeal.sig) → Buf (Elt Ideal) ℓ) (g : Dev Cert.CmpRefIdeal.nD → PrngReg), Pre_CmpRefIdeal_finite_keys m →
    θ_run (Cert.CmpRefIdeal.defs (F := Ideal)) (onTc (τ := Cert.CmpRefIdeal.τ) (Cert.CmpRefIdeal.main (F := Ideal))) ⟨m, fun _ => 0, g⟩ (fun r => (∀ c : Dev Cert.CmpRefIdeal.nD,
      r.2.mem ((c.tc : Thread Cert.CmpRefIdeal.nD Cert.CmpRefIdeal.τ).loc Cert.CmpRefIdeal.main_arg0) = m ((c.tc : Thread Cert.CmpRefIdeal.nD Cert.CmpRefIdeal.τ).loc Cert.CmpRefIdeal.main_arg0)
      ∧ r.2.mem ((c.tc : Thread Cert.CmpRefIdeal.nD Cert.CmpRefIdeal.τ).loc Cert.CmpRefIdeal.main_arg1) = m ((c.tc : Thread Cert.CmpRefIdeal.nD Cert.CmpRefIdeal.τ).loc Cert.CmpRefIdeal.main_arg1)
      ∧ r.2.mem ((c.tc : Thread Cert.CmpRefIdeal.nD Cert.CmpRefIdeal.τ).loc Cert.CmpRefIdeal.main_arg2) = m ((c.tc : Thread Cert.CmpRefIdeal.nD Cert.CmpRefIdeal.τ).loc Cert.CmpRefIdeal.main_arg2)
      ∧ r.2.mem ((c.tc : Thread Cert.CmpRefIdeal.nD Cert.CmpRefIdeal.τ).loc Cert.CmpRefIdeal.main_arg3) = m ((c.tc : Thread Cert.CmpRefIdeal.nD Cert.CmpRefIdeal.τ).loc Cert.CmpRefIdeal.main_arg3)
      ∧ r.2.mem ((c.tc : Thread Cert.CmpRefIdeal.nD Cert.CmpRefIdeal.τ).loc Cert.CmpRefIdeal.main_arg4) = m ((c.tc : Thread Cert.CmpRefIdeal.nD Cert.CmpRefIdeal.τ).loc Cert.CmpRefIdeal.main_arg4)
      ∧ r.2.mem ((c.tc : Thread Cert.CmpRefIdeal.nD Cert.CmpRefIdeal.τ).loc Cert.CmpRefIdeal.main_arg5) = m ((c.tc : Thread Cert.CmpRefIdeal.nD Cert.CmpRefIdeal.τ).loc Cert.CmpRefIdeal.main_arg5)
      ∧ r.2.mem ((c.tc : Thread Cert.CmpRefIdeal.nD Cert.CmpRefIdeal.τ).loc Cert.CmpRefIdeal.main_arg6) = m ((c.tc : Thread Cert.CmpRefIdeal.nD Cert.CmpRefIdeal.τ).loc Cert.CmpRefIdeal.main_arg6)
      ∧ r.2.mem ((c.tc : Thread Cert.CmpRefIdeal.nD Cert.CmpRefIdeal.τ).loc Cert.CmpRefIdeal.main_arg7) = m ((c.tc : Thread Cert.CmpRefIdeal.nD Cert.CmpRefIdeal.τ).loc Cert.CmpRefIdeal.main_arg7))
      ∧ r.2.sem = fun _ => 0)

def quiescent_Rwkv [hRwkv : Cert.Rwkv.Facts] : Prop :=
  ∀ (m : (ℓ : Loc Cert.Rwkv.nD Cert.Rwkv.τ Cert.Rwkv.sig) → Buf (Elt Bits) ℓ) (g : Dev Cert.Rwkv.nD → PrngReg), Pre_Rwkv m →
    θ_run (Cert.Rwkv.defs (F := Bits)) (onTc (τ := Cert.Rwkv.τ) (Cert.Rwkv.main (F := Bits))) ⟨m, fun _ => 0, g⟩ (fun r => (∀ c : Dev Cert.Rwkv.nD,
      r.2.mem ((c.tc : Thread Cert.Rwkv.nD Cert.Rwkv.τ).loc Cert.Rwkv.main_arg0) = m ((c.tc : Thread Cert.Rwkv.nD Cert.Rwkv.τ).loc Cert.Rwkv.main_arg0)
      ∧ r.2.mem ((c.tc : Thread Cert.Rwkv.nD Cert.Rwkv.τ).loc Cert.Rwkv.main_arg1) = m ((c.tc : Thread Cert.Rwkv.nD Cert.Rwkv.τ).loc Cert.Rwkv.main_arg1)
      ∧ r.2.mem ((c.tc : Thread Cert.Rwkv.nD Cert.Rwkv.τ).loc Cert.Rwkv.main_arg2) = m ((c.tc : Thread Cert.Rwkv.nD Cert.Rwkv.τ).loc Cert.Rwkv.main_arg2)
      ∧ r.2.mem ((c.tc : Thread Cert.Rwkv.nD Cert.Rwkv.τ).loc Cert.Rwkv.main_arg3) = m ((c.tc : Thread Cert.Rwkv.nD Cert.Rwkv.τ).loc Cert.Rwkv.main_arg3)
      ∧ r.2.mem ((c.tc : Thread Cert.Rwkv.nD Cert.Rwkv.τ).loc Cert.Rwkv.main_arg4) = m ((c.tc : Thread Cert.Rwkv.nD Cert.Rwkv.τ).loc Cert.Rwkv.main_arg4)
      ∧ r.2.mem ((c.tc : Thread Cert.Rwkv.nD Cert.Rwkv.τ).loc Cert.Rwkv.main_arg5) = m ((c.tc : Thread Cert.Rwkv.nD Cert.Rwkv.τ).loc Cert.Rwkv.main_arg5)
      ∧ r.2.mem ((c.tc : Thread Cert.Rwkv.nD Cert.Rwkv.τ).loc Cert.Rwkv.main_arg6) = m ((c.tc : Thread Cert.Rwkv.nD Cert.Rwkv.τ).loc Cert.Rwkv.main_arg6)
      ∧ r.2.mem ((c.tc : Thread Cert.Rwkv.nD Cert.Rwkv.τ).loc Cert.Rwkv.main_arg7) = m ((c.tc : Thread Cert.Rwkv.nD Cert.Rwkv.τ).loc Cert.Rwkv.main_arg7)
      ∧ r.2.mem ((c.tc : Thread Cert.Rwkv.nD Cert.Rwkv.τ).loc Cert.Rwkv.main_arg8) = m ((c.tc : Thread Cert.Rwkv.nD Cert.Rwkv.τ).loc Cert.Rwkv.main_arg8)
      ∧ r.2.mem ((c.tc : Thread Cert.Rwkv.nD Cert.Rwkv.τ).loc Cert.Rwkv.main_arg9) = m ((c.tc : Thread Cert.Rwkv.nD Cert.Rwkv.τ).loc Cert.Rwkv.main_arg9)
      ∧ r.2.mem ((c.tc : Thread Cert.Rwkv.nD Cert.Rwkv.τ).loc Cert.Rwkv.main_arg10) = m ((c.tc : Thread Cert.Rwkv.nD Cert.Rwkv.τ).loc Cert.Rwkv.main_arg10)
      ∧ r.2.mem ((c.tc : Thread Cert.Rwkv.nD Cert.Rwkv.τ).loc Cert.Rwkv.main_arg11) = m ((c.tc : Thread Cert.Rwkv.nD Cert.Rwkv.τ).loc Cert.Rwkv.main_arg11))
      ∧ r.2.sem = fun _ => 0)

def quiescent_RwkvIdeal [hRwkvIdeal : Cert.RwkvIdeal.Facts] : Prop :=
  ∀ (m : (ℓ : Loc Cert.RwkvIdeal.nD Cert.RwkvIdeal.τ Cert.RwkvIdeal.sig) → Buf (Elt Ideal) ℓ) (g : Dev Cert.RwkvIdeal.nD → PrngReg), Pre_RwkvIdeal m →
    θ_run (Cert.RwkvIdeal.defs (F := Ideal)) (onTc (τ := Cert.RwkvIdeal.τ) (Cert.RwkvIdeal.main (F := Ideal))) ⟨m, fun _ => 0, g⟩ (fun r => (∀ c : Dev Cert.RwkvIdeal.nD,
      r.2.mem ((c.tc : Thread Cert.RwkvIdeal.nD Cert.RwkvIdeal.τ).loc Cert.RwkvIdeal.main_arg0) = m ((c.tc : Thread Cert.RwkvIdeal.nD Cert.RwkvIdeal.τ).loc Cert.RwkvIdeal.main_arg0)
      ∧ r.2.mem ((c.tc : Thread Cert.RwkvIdeal.nD Cert.RwkvIdeal.τ).loc Cert.RwkvIdeal.main_arg1) = m ((c.tc : Thread Cert.RwkvIdeal.nD Cert.RwkvIdeal.τ).loc Cert.RwkvIdeal.main_arg1)
      ∧ r.2.mem ((c.tc : Thread Cert.RwkvIdeal.nD Cert.RwkvIdeal.τ).loc Cert.RwkvIdeal.main_arg2) = m ((c.tc : Thread Cert.RwkvIdeal.nD Cert.RwkvIdeal.τ).loc Cert.RwkvIdeal.main_arg2)
      ∧ r.2.mem ((c.tc : Thread Cert.RwkvIdeal.nD Cert.RwkvIdeal.τ).loc Cert.RwkvIdeal.main_arg3) = m ((c.tc : Thread Cert.RwkvIdeal.nD Cert.RwkvIdeal.τ).loc Cert.RwkvIdeal.main_arg3)
      ∧ r.2.mem ((c.tc : Thread Cert.RwkvIdeal.nD Cert.RwkvIdeal.τ).loc Cert.RwkvIdeal.main_arg4) = m ((c.tc : Thread Cert.RwkvIdeal.nD Cert.RwkvIdeal.τ).loc Cert.RwkvIdeal.main_arg4)
      ∧ r.2.mem ((c.tc : Thread Cert.RwkvIdeal.nD Cert.RwkvIdeal.τ).loc Cert.RwkvIdeal.main_arg5) = m ((c.tc : Thread Cert.RwkvIdeal.nD Cert.RwkvIdeal.τ).loc Cert.RwkvIdeal.main_arg5)
      ∧ r.2.mem ((c.tc : Thread Cert.RwkvIdeal.nD Cert.RwkvIdeal.τ).loc Cert.RwkvIdeal.main_arg6) = m ((c.tc : Thread Cert.RwkvIdeal.nD Cert.RwkvIdeal.τ).loc Cert.RwkvIdeal.main_arg6)
      ∧ r.2.mem ((c.tc : Thread Cert.RwkvIdeal.nD Cert.RwkvIdeal.τ).loc Cert.RwkvIdeal.main_arg7) = m ((c.tc : Thread Cert.RwkvIdeal.nD Cert.RwkvIdeal.τ).loc Cert.RwkvIdeal.main_arg7)
      ∧ r.2.mem ((c.tc : Thread Cert.RwkvIdeal.nD Cert.RwkvIdeal.τ).loc Cert.RwkvIdeal.main_arg8) = m ((c.tc : Thread Cert.RwkvIdeal.nD Cert.RwkvIdeal.τ).loc Cert.RwkvIdeal.main_arg8)
      ∧ r.2.mem ((c.tc : Thread Cert.RwkvIdeal.nD Cert.RwkvIdeal.τ).loc Cert.RwkvIdeal.main_arg9) = m ((c.tc : Thread Cert.RwkvIdeal.nD Cert.RwkvIdeal.τ).loc Cert.RwkvIdeal.main_arg9)
      ∧ r.2.mem ((c.tc : Thread Cert.RwkvIdeal.nD Cert.RwkvIdeal.τ).loc Cert.RwkvIdeal.main_arg10) = m ((c.tc : Thread Cert.RwkvIdeal.nD Cert.RwkvIdeal.τ).loc Cert.RwkvIdeal.main_arg10)
      ∧ r.2.mem ((c.tc : Thread Cert.RwkvIdeal.nD Cert.RwkvIdeal.τ).loc Cert.RwkvIdeal.main_arg11) = m ((c.tc : Thread Cert.RwkvIdeal.nD Cert.RwkvIdeal.τ).loc Cert.RwkvIdeal.main_arg11))
      ∧ r.2.sem = fun _ => 0)

def quiescent_RwkvRefIdeal [hRwkvRefIdeal : Cert.RwkvRefIdeal.Facts] : Prop :=
  ∀ (m : (ℓ : Loc Cert.RwkvRefIdeal.nD Cert.RwkvRefIdeal.τ Cert.RwkvRefIdeal.sig) → Buf (Elt Ideal) ℓ) (g : Dev Cert.RwkvRefIdeal.nD → PrngReg), Pre_RwkvRefIdeal m →
    θ_run (Cert.RwkvRefIdeal.defs (F := Ideal)) (onTc (τ := Cert.RwkvRefIdeal.τ) (Cert.RwkvRefIdeal.main (F := Ideal))) ⟨m, fun _ => 0, g⟩ (fun r => (∀ c : Dev Cert.RwkvRefIdeal.nD,
      r.2.mem ((c.tc : Thread Cert.RwkvRefIdeal.nD Cert.RwkvRefIdeal.τ).loc Cert.RwkvRefIdeal.main_arg0) = m ((c.tc : Thread Cert.RwkvRefIdeal.nD Cert.RwkvRefIdeal.τ).loc Cert.RwkvRefIdeal.main_arg0)
      ∧ r.2.mem ((c.tc : Thread Cert.RwkvRefIdeal.nD Cert.RwkvRefIdeal.τ).loc Cert.RwkvRefIdeal.main_arg1) = m ((c.tc : Thread Cert.RwkvRefIdeal.nD Cert.RwkvRefIdeal.τ).loc Cert.RwkvRefIdeal.main_arg1)
      ∧ r.2.mem ((c.tc : Thread Cert.RwkvRefIdeal.nD Cert.RwkvRefIdeal.τ).loc Cert.RwkvRefIdeal.main_arg2) = m ((c.tc : Thread Cert.RwkvRefIdeal.nD Cert.RwkvRefIdeal.τ).loc Cert.RwkvRefIdeal.main_arg2)
      ∧ r.2.mem ((c.tc : Thread Cert.RwkvRefIdeal.nD Cert.RwkvRefIdeal.τ).loc Cert.RwkvRefIdeal.main_arg3) = m ((c.tc : Thread Cert.RwkvRefIdeal.nD Cert.RwkvRefIdeal.τ).loc Cert.RwkvRefIdeal.main_arg3)
      ∧ r.2.mem ((c.tc : Thread Cert.RwkvRefIdeal.nD Cert.RwkvRefIdeal.τ).loc Cert.RwkvRefIdeal.main_arg4) = m ((c.tc : Thread Cert.RwkvRefIdeal.nD Cert.RwkvRefIdeal.τ).loc Cert.RwkvRefIdeal.main_arg4)
      ∧ r.2.mem ((c.tc : Thread Cert.RwkvRefIdeal.nD Cert.RwkvRefIdeal.τ).loc Cert.RwkvRefIdeal.main_arg5) = m ((c.tc : Thread Cert.RwkvRefIdeal.nD Cert.RwkvRefIdeal.τ).loc Cert.RwkvRefIdeal.main_arg5)
      ∧ r.2.mem ((c.tc : Thread Cert.RwkvRefIdeal.nD Cert.RwkvRefIdeal.τ).loc Cert.RwkvRefIdeal.main_arg6) = m ((c.tc : Thread Cert.RwkvRefIdeal.nD Cert.RwkvRefIdeal.τ).loc Cert.RwkvRefIdeal.main_arg6)
      ∧ r.2.mem ((c.tc : Thread Cert.RwkvRefIdeal.nD Cert.RwkvRefIdeal.τ).loc Cert.RwkvRefIdeal.main_arg7) = m ((c.tc : Thread Cert.RwkvRefIdeal.nD Cert.RwkvRefIdeal.τ).loc Cert.RwkvRefIdeal.main_arg7)
      ∧ r.2.mem ((c.tc : Thread Cert.RwkvRefIdeal.nD Cert.RwkvRefIdeal.τ).loc Cert.RwkvRefIdeal.main_arg8) = m ((c.tc : Thread Cert.RwkvRefIdeal.nD Cert.RwkvRefIdeal.τ).loc Cert.RwkvRefIdeal.main_arg8)
      ∧ r.2.mem ((c.tc : Thread Cert.RwkvRefIdeal.nD Cert.RwkvRefIdeal.τ).loc Cert.RwkvRefIdeal.main_arg9) = m ((c.tc : Thread Cert.RwkvRefIdeal.nD Cert.RwkvRefIdeal.τ).loc Cert.RwkvRefIdeal.main_arg9)
      ∧ r.2.mem ((c.tc : Thread Cert.RwkvRefIdeal.nD Cert.RwkvRefIdeal.τ).loc Cert.RwkvRefIdeal.main_arg10) = m ((c.tc : Thread Cert.RwkvRefIdeal.nD Cert.RwkvRefIdeal.τ).loc Cert.RwkvRefIdeal.main_arg10)
      ∧ r.2.mem ((c.tc : Thread Cert.RwkvRefIdeal.nD Cert.RwkvRefIdeal.τ).loc Cert.RwkvRefIdeal.main_arg11) = m ((c.tc : Thread Cert.RwkvRefIdeal.nD Cert.RwkvRefIdeal.τ).loc Cert.RwkvRefIdeal.main_arg11))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v8)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v8) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v17) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mop_MopIdeal : Prop :=
  True

def algebraic_MopIdeal_MopRefIdeal [hMopIdeal : Cert.MopIdeal.Facts] [hMopRefIdeal : Cert.MopRefIdeal.Facts] : Prop :=
  ∀ (m : (ℓ : Loc Cert.MopIdeal.nD Cert.MopIdeal.τ Cert.MopIdeal.sig) → Buf (Elt Ideal) ℓ) (g : Dev Cert.MopIdeal.nD → PrngReg)
    (m' : (ℓ : Loc Cert.MopRefIdeal.nD Cert.MopRefIdeal.τ Cert.MopRefIdeal.sig) → Buf (Elt Ideal) ℓ) (g' : Dev Cert.MopRefIdeal.nD → PrngReg), Pre_MopIdeal m →
    (∀ c : Dev Cert.MopIdeal.nD,
      m' ((c.tc : Thread Cert.MopRefIdeal.nD Cert.MopRefIdeal.τ).loc Cert.MopRefIdeal.main_arg0) = m ((c.tc : Thread Cert.MopIdeal.nD Cert.MopIdeal.τ).loc Cert.MopIdeal.main_arg0)
      ∧ m' ((c.tc : Thread Cert.MopRefIdeal.nD Cert.MopRefIdeal.τ).loc Cert.MopRefIdeal.main_arg1) = m ((c.tc : Thread Cert.MopIdeal.nD Cert.MopIdeal.τ).loc Cert.MopIdeal.main_arg1)
      ∧ m' ((c.tc : Thread Cert.MopRefIdeal.nD Cert.MopRefIdeal.τ).loc Cert.MopRefIdeal.main_arg2) = m ((c.tc : Thread Cert.MopIdeal.nD Cert.MopIdeal.τ).loc Cert.MopIdeal.main_arg2)
      ∧ m' ((c.tc : Thread Cert.MopRefIdeal.nD Cert.MopRefIdeal.τ).loc Cert.MopRefIdeal.main_arg3) = m ((c.tc : Thread Cert.MopIdeal.nD Cert.MopIdeal.τ).loc Cert.MopIdeal.main_arg3)
      ∧ m' ((c.tc : Thread Cert.MopRefIdeal.nD Cert.MopRefIdeal.τ).loc Cert.MopRefIdeal.main_arg4) = m ((c.tc : Thread Cert.MopIdeal.nD Cert.MopIdeal.τ).loc Cert.MopIdeal.main_arg4)
      ∧ m' ((c.tc : Thread Cert.MopRefIdeal.nD Cert.MopRefIdeal.τ).loc Cert.MopRefIdeal.main_arg5) = m ((c.tc : Thread Cert.MopIdeal.nD Cert.MopIdeal.τ).loc Cert.MopIdeal.main_arg5)
      ∧ m' ((c.tc : Thread Cert.MopRefIdeal.nD Cert.MopRefIdeal.τ).loc Cert.MopRefIdeal.main_arg6) = m ((c.tc : Thread Cert.MopIdeal.nD Cert.MopIdeal.τ).loc Cert.MopIdeal.main_arg6)
      ∧ m' ((c.tc : Thread Cert.MopRefIdeal.nD Cert.MopRefIdeal.τ).loc Cert.MopRefIdeal.main_arg7) = m ((c.tc : Thread Cert.MopIdeal.nD Cert.MopIdeal.τ).loc Cert.MopIdeal.main_arg7)
      ∧ m' ((c.tc : Thread Cert.MopRefIdeal.nD Cert.MopRefIdeal.τ).loc Cert.MopRefIdeal.main_arg8) = m ((c.tc : Thread Cert.MopIdeal.nD Cert.MopIdeal.τ).loc Cert.MopIdeal.main_arg8)) →
    ∃ (v0 : (c : Dev Cert.MopIdeal.nD) → Buf (Elt Ideal) ((c.tc : Thread Cert.MopIdeal.nD Cert.MopIdeal.τ).loc Cert.MopIdeal.main_v28_0)) (v1 : (c : Dev Cert.MopIdeal.nD) → Buf (Elt Ideal) ((c.tc : Thread Cert.MopIdeal.nD Cert.MopIdeal.τ).loc Cert.MopIdeal.main_v28_1)),
      θ_run (Cert.MopIdeal.defs (F := Ideal)) (onTc (τ := Cert.MopIdeal.τ) (Cert.MopIdeal.main (F := Ideal))) ⟨m, fun _ => 0, g⟩ (fun r => ∀ c : Dev Cert.MopIdeal.nD,
          r.2.mem ((c.tc : Thread Cert.MopIdeal.nD Cert.MopIdeal.τ).loc Cert.MopIdeal.main_v28_0) = v0 c
          ∧ r.2.mem ((c.tc : Thread Cert.MopIdeal.nD Cert.MopIdeal.τ).loc Cert.MopIdeal.main_v28_1) = v1 c
          ∧ r.2.mem ((c.tc : Thread Cert.MopIdeal.nD Cert.MopIdeal.τ).loc Cert.MopIdeal.main_arg0) = m ((c.tc : Thread Cert.MopIdeal.nD Cert.MopIdeal.τ).loc Cert.MopIdeal.main_arg0)
          ∧ r.2.mem ((c.tc : Thread Cert.MopIdeal.nD Cert.MopIdeal.τ).loc Cert.MopIdeal.main_arg1) = m ((c.tc : Thread Cert.MopIdeal.nD Cert.MopIdeal.τ).loc Cert.MopIdeal.main_arg1)
          ∧ r.2.mem ((c.tc : Thread Cert.MopIdeal.nD Cert.MopIdeal.τ).loc Cert.MopIdeal.main_arg2) = m ((c.tc : Thread Cert.MopIdeal.nD Cert.MopIdeal.τ).loc Cert.MopIdeal.main_arg2)
          ∧ r.2.mem ((c.tc : Thread Cert.MopIdeal.nD Cert.MopIdeal.τ).loc Cert.MopIdeal.main_arg3) = m ((c.tc : Thread Cert.MopIdeal.nD Cert.MopIdeal.τ).loc Cert.MopIdeal.main_arg3)
          ∧ r.2.mem ((c.tc : Thread Cert.MopIdeal.nD Cert.MopIdeal.τ).loc Cert.MopIdeal.main_arg4) = m ((c.tc : Thread Cert.MopIdeal.nD Cert.MopIdeal.τ).loc Cert.MopIdeal.main_arg4)
          ∧ r.2.mem ((c.tc : Thread Cert.MopIdeal.nD Cert.MopIdeal.τ).loc Cert.MopIdeal.main_arg5) = m ((c.tc : Thread Cert.MopIdeal.nD Cert.MopIdeal.τ).loc Cert.MopIdeal.main_arg5)
          ∧ r.2.mem ((c.tc : Thread Cert.MopIdeal.nD Cert.MopIdeal.τ).loc Cert.MopIdeal.main_arg6) = m ((c.tc : Thread Cert.MopIdeal.nD Cert.MopIdeal.τ).loc Cert.MopIdeal.main_arg6)
          ∧ r.2.mem ((c.tc : Thread Cert.MopIdeal.nD Cert.MopIdeal.τ).loc Cert.MopIdeal.main_arg7) = m ((c.tc : Thread Cert.MopIdeal.nD Cert.MopIdeal.τ).loc Cert.MopIdeal.main_arg7)
          ∧ r.2.mem ((c.tc : Thread Cert.MopIdeal.nD Cert.MopIdeal.τ).loc Cert.MopIdeal.main_arg8) = m ((c.tc : Thread Cert.MopIdeal.nD Cert.MopIdeal.τ).loc Cert.MopIdeal.main_arg8))
      ∧ θ_run (Cert.MopRefIdeal.defs (F := Ideal)) (onTc (τ := Cert.MopRefIdeal.τ) (Cert.MopRefIdeal.main (F := Ideal))) ⟨m', fun _ => 0, g'⟩ (fun r => ∀ c : Dev Cert.MopRefIdeal.nD,
          r.2.mem ((c.tc : Thread Cert.MopRefIdeal.nD Cert.MopRefIdeal.τ).loc Cert.MopRefIdeal.main_v48) = v0 c
          ∧ r.2.mem ((c.tc : Thread Cert.MopRefIdeal.nD Cert.MopRefIdeal.τ).loc Cert.MopRefIdeal.main_v50) = v1 c
          ∧ r.2.mem ((c.tc : Thread Cert.MopRefIdeal.nD Cert.MopRefIdeal.τ).loc Cert.MopRefIdeal.main_arg0) = m' ((c.tc : Thread Cert.MopRefIdeal.nD Cert.MopRefIdeal.τ).loc Cert.MopRefIdeal.main_arg0)
          ∧ r.2.mem ((c.tc : Thread Cert.MopRefIdeal.nD Cert.MopRefIdeal.τ).loc Cert.MopRefIdeal.main_arg1) = m' ((c.tc : Thread Cert.MopRefIdeal.nD Cert.MopRefIdeal.τ).loc Cert.MopRefIdeal.main_arg1)
          ∧ r.2.mem ((c.tc : Thread Cert.MopRefIdeal.nD Cert.MopRefIdeal.τ).loc Cert.MopRefIdeal.main_arg2) = m' ((c.tc : Thread Cert.MopRefIdeal.nD Cert.MopRefIdeal.τ).loc Cert.MopRefIdeal.main_arg2)
          ∧ r.2.mem ((c.tc : Thread Cert.MopRefIdeal.nD Cert.MopRefIdeal.τ).loc Cert.MopRefIdeal.main_arg3) = m' ((c.tc : Thread Cert.MopRefIdeal.nD Cert.MopRefIdeal.τ).loc Cert.MopRefIdeal.main_arg3)
          ∧ r.2.mem ((c.tc : Thread Cert.MopRefIdeal.nD Cert.MopRefIdeal.τ).loc Cert.MopRefIdeal.main_arg4) = m' ((c.tc : Thread Cert.MopRefIdeal.nD Cert.MopRefIdeal.τ).loc Cert.MopRefIdeal.main_arg4)
          ∧ r.2.mem ((c.tc : Thread Cert.MopRefIdeal.nD Cert.MopRefIdeal.τ).loc Cert.MopRefIdeal.main_arg5) = m' ((c.tc : Thread Cert.MopRefIdeal.nD Cert.MopRefIdeal.τ).loc Cert.MopRefIdeal.main_arg5)
          ∧ r.2.mem ((c.tc : Thread Cert.MopRefIdeal.nD Cert.MopRefIdeal.τ).loc Cert.MopRefIdeal.main_arg6) = m' ((c.tc : Thread Cert.MopRefIdeal.nD Cert.MopRefIdeal.τ).loc Cert.MopRefIdeal.main_arg6)
          ∧ r.2.mem ((c.tc : Thread Cert.MopRefIdeal.nD Cert.MopRefIdeal.τ).loc Cert.MopRefIdeal.main_arg7) = m' ((c.tc : Thread Cert.MopRefIdeal.nD Cert.MopRefIdeal.τ).loc Cert.MopRefIdeal.main_arg7)
          ∧ r.2.mem ((c.tc : Thread Cert.MopRefIdeal.nD Cert.MopRefIdeal.τ).loc Cert.MopRefIdeal.main_arg8) = m' ((c.tc : Thread Cert.MopRefIdeal.nD Cert.MopRefIdeal.τ).loc Cert.MopRefIdeal.main_arg8))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)) →
    ∃ (v0 : (c : Dev Cert.InpIdeal.nD) → Buf (Elt Ideal) ((c.tc : Thread Cert.InpIdeal.nD Cert.InpIdeal.τ).loc Cert.InpIdeal.main_v16_0)) (v1 : (c : Dev Cert.InpIdeal.nD) → Buf (Elt Ideal) ((c.tc : Thread Cert.InpIdeal.nD Cert.InpIdeal.τ).loc Cert.InpIdeal.main_v16_1)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v16_0) = v0 c
          ∧ r.2.mem ((c.tc : Thread Cert.InpIdeal.nD Cert.InpIdeal.τ).loc Cert.InpIdeal.main_v16_1) = v1 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v42) = v0 c
          ∧ r.2.mem ((c.tc : Thread Cert.InpRefIdeal.nD Cert.InpRefIdeal.τ).loc Cert.InpRefIdeal.main_v37) = v1 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v3)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v3) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Cmp_CmpIdeal : Prop :=
  True

def algebraic_CmpIdeal_CmpRefIdeal_pre_finite_keys [hCmpIdeal : Cert.CmpIdeal.Facts] [hCmpRefIdeal : Cert.CmpRefIdeal.Facts] [hPre_finite_keys : Cert.Pre_finite_keys.Facts] : Prop :=
  ∀ (m : (ℓ : Loc Cert.CmpIdeal.nD Cert.CmpIdeal.τ Cert.CmpIdeal.sig) → Buf (Elt Ideal) ℓ) (g : Dev Cert.CmpIdeal.nD → PrngReg)
    (m' : (ℓ : Loc Cert.CmpRefIdeal.nD Cert.CmpRefIdeal.τ Cert.CmpRefIdeal.sig) → Buf (Elt Ideal) ℓ) (g' : Dev Cert.CmpRefIdeal.nD → PrngReg), Pre_CmpIdeal_finite_keys m →
    (∀ c : Dev Cert.CmpIdeal.nD,
      m' ((c.tc : Thread Cert.CmpRefIdeal.nD Cert.CmpRefIdeal.τ).loc Cert.CmpRefIdeal.main_arg0) = m ((c.tc : Thread Cert.CmpIdeal.nD Cert.CmpIdeal.τ).loc Cert.CmpIdeal.main_arg0)
      ∧ m' ((c.tc : Thread Cert.CmpRefIdeal.nD Cert.CmpRefIdeal.τ).loc Cert.CmpRefIdeal.main_arg1) = m ((c.tc : Thread Cert.CmpIdeal.nD Cert.CmpIdeal.τ).loc Cert.CmpIdeal.main_arg1)
      ∧ m' ((c.tc : Thread Cert.CmpRefIdeal.nD Cert.CmpRefIdeal.τ).loc Cert.CmpRefIdeal.main_arg2) = m ((c.tc : Thread Cert.CmpIdeal.nD Cert.CmpIdeal.τ).loc Cert.CmpIdeal.main_arg2)
      ∧ m' ((c.tc : Thread Cert.CmpRefIdeal.nD Cert.CmpRefIdeal.τ).loc Cert.CmpRefIdeal.main_arg3) = m ((c.tc : Thread Cert.CmpIdeal.nD Cert.CmpIdeal.τ).loc Cert.CmpIdeal.main_arg3)
      ∧ m' ((c.tc : Thread Cert.CmpRefIdeal.nD Cert.CmpRefIdeal.τ).loc Cert.CmpRefIdeal.main_arg4) = m ((c.tc : Thread Cert.CmpIdeal.nD Cert.CmpIdeal.τ).loc Cert.CmpIdeal.main_arg4)
      ∧ m' ((c.tc : Thread Cert.CmpRefIdeal.nD Cert.CmpRefIdeal.τ).loc Cert.CmpRefIdeal.main_arg5) = m ((c.tc : Thread Cert.CmpIdeal.nD Cert.CmpIdeal.τ).loc Cert.CmpIdeal.main_arg5)
      ∧ m' ((c.tc : Thread Cert.CmpRefIdeal.nD Cert.CmpRefIdeal.τ).loc Cert.CmpRefIdeal.main_arg6) = m ((c.tc : Thread Cert.CmpIdeal.nD Cert.CmpIdeal.τ).loc Cert.CmpIdeal.main_arg6)
      ∧ m' ((c.tc : Thread Cert.CmpRefIdeal.nD Cert.CmpRefIdeal.τ).loc Cert.CmpRefIdeal.main_arg7) = m ((c.tc : Thread Cert.CmpIdeal.nD Cert.CmpIdeal.τ).loc Cert.CmpIdeal.main_arg7)) →
    ∃ (v0 : (c : Dev Cert.CmpIdeal.nD) → Buf (Elt Ideal) ((c.tc : Thread Cert.CmpIdeal.nD Cert.CmpIdeal.τ).loc Cert.CmpIdeal.main_v48_0)) (v1 : (c : Dev Cert.CmpIdeal.nD) → Buf (Elt Ideal) ((c.tc : Thread Cert.CmpIdeal.nD Cert.CmpIdeal.τ).loc Cert.CmpIdeal.main_v48_1)),
      θ_run (Cert.CmpIdeal.defs (F := Ideal)) (onTc (τ := Cert.CmpIdeal.τ) (Cert.CmpIdeal.main (F := Ideal))) ⟨m, fun _ => 0, g⟩ (fun r => ∀ c : Dev Cert.CmpIdeal.nD,
          r.2.mem ((c.tc : Thread Cert.CmpIdeal.nD Cert.CmpIdeal.τ).loc Cert.CmpIdeal.main_v48_0) = v0 c
          ∧ r.2.mem ((c.tc : Thread Cert.CmpIdeal.nD Cert.CmpIdeal.τ).loc Cert.CmpIdeal.main_v48_1) = v1 c
          ∧ r.2.mem ((c.tc : Thread Cert.CmpIdeal.nD Cert.CmpIdeal.τ).loc Cert.CmpIdeal.main_arg0) = m ((c.tc : Thread Cert.CmpIdeal.nD Cert.CmpIdeal.τ).loc Cert.CmpIdeal.main_arg0)
          ∧ r.2.mem ((c.tc : Thread Cert.CmpIdeal.nD Cert.CmpIdeal.τ).loc Cert.CmpIdeal.main_arg1) = m ((c.tc : Thread Cert.CmpIdeal.nD Cert.CmpIdeal.τ).loc Cert.CmpIdeal.main_arg1)
          ∧ r.2.mem ((c.tc : Thread Cert.CmpIdeal.nD Cert.CmpIdeal.τ).loc Cert.CmpIdeal.main_arg2) = m ((c.tc : Thread Cert.CmpIdeal.nD Cert.CmpIdeal.τ).loc Cert.CmpIdeal.main_arg2)
          ∧ r.2.mem ((c.tc : Thread Cert.CmpIdeal.nD Cert.CmpIdeal.τ).loc Cert.CmpIdeal.main_arg3) = m ((c.tc : Thread Cert.CmpIdeal.nD Cert.CmpIdeal.τ).loc Cert.CmpIdeal.main_arg3)
          ∧ r.2.mem ((c.tc : Thread Cert.CmpIdeal.nD Cert.CmpIdeal.τ).loc Cert.CmpIdeal.main_arg4) = m ((c.tc : Thread Cert.CmpIdeal.nD Cert.CmpIdeal.τ).loc Cert.CmpIdeal.main_arg4)
          ∧ r.2.mem ((c.tc : Thread Cert.CmpIdeal.nD Cert.CmpIdeal.τ).loc Cert.CmpIdeal.main_arg5) = m ((c.tc : Thread Cert.CmpIdeal.nD Cert.CmpIdeal.τ).loc Cert.CmpIdeal.main_arg5)
          ∧ r.2.mem ((c.tc : Thread Cert.CmpIdeal.nD Cert.CmpIdeal.τ).loc Cert.CmpIdeal.main_arg6) = m ((c.tc : Thread Cert.CmpIdeal.nD Cert.CmpIdeal.τ).loc Cert.CmpIdeal.main_arg6)
          ∧ r.2.mem ((c.tc : Thread Cert.CmpIdeal.nD Cert.CmpIdeal.τ).loc Cert.CmpIdeal.main_arg7) = m ((c.tc : Thread Cert.CmpIdeal.nD Cert.CmpIdeal.τ).loc Cert.CmpIdeal.main_arg7))
      ∧ θ_run (Cert.CmpRefIdeal.defs (F := Ideal)) (onTc (τ := Cert.CmpRefIdeal.τ) (Cert.CmpRefIdeal.main (F := Ideal))) ⟨m', fun _ => 0, g'⟩ (fun r => ∀ c : Dev Cert.CmpRefIdeal.nD,
          r.2.mem ((c.tc : Thread Cert.CmpRefIdeal.nD Cert.CmpRefIdeal.τ).loc Cert.CmpRefIdeal.main_v84) = v0 c
          ∧ r.2.mem ((c.tc : Thread Cert.CmpRefIdeal.nD Cert.CmpRefIdeal.τ).loc Cert.CmpRefIdeal.main_v85) = v1 c
          ∧ r.2.mem ((c.tc : Thread Cert.CmpRefIdeal.nD Cert.CmpRefIdeal.τ).loc Cert.CmpRefIdeal.main_arg0) = m' ((c.tc : Thread Cert.CmpRefIdeal.nD Cert.CmpRefIdeal.τ).loc Cert.CmpRefIdeal.main_arg0)
          ∧ r.2.mem ((c.tc : Thread Cert.CmpRefIdeal.nD Cert.CmpRefIdeal.τ).loc Cert.CmpRefIdeal.main_arg1) = m' ((c.tc : Thread Cert.CmpRefIdeal.nD Cert.CmpRefIdeal.τ).loc Cert.CmpRefIdeal.main_arg1)
          ∧ r.2.mem ((c.tc : Thread Cert.CmpRefIdeal.nD Cert.CmpRefIdeal.τ).loc Cert.CmpRefIdeal.main_arg2) = m' ((c.tc : Thread Cert.CmpRefIdeal.nD Cert.CmpRefIdeal.τ).loc Cert.CmpRefIdeal.main_arg2)
          ∧ r.2.mem ((c.tc : Thread Cert.CmpRefIdeal.nD Cert.CmpRefIdeal.τ).loc Cert.CmpRefIdeal.main_arg3) = m' ((c.tc : Thread Cert.CmpRefIdeal.nD Cert.CmpRefIdeal.τ).loc Cert.CmpRefIdeal.main_arg3)
          ∧ r.2.mem ((c.tc : Thread Cert.CmpRefIdeal.nD Cert.CmpRefIdeal.τ).loc Cert.CmpRefIdeal.main_arg4) = m' ((c.tc : Thread Cert.CmpRefIdeal.nD Cert.CmpRefIdeal.τ).loc Cert.CmpRefIdeal.main_arg4)
          ∧ r.2.mem ((c.tc : Thread Cert.CmpRefIdeal.nD Cert.CmpRefIdeal.τ).loc Cert.CmpRefIdeal.main_arg5) = m' ((c.tc : Thread Cert.CmpRefIdeal.nD Cert.CmpRefIdeal.τ).loc Cert.CmpRefIdeal.main_arg5)
          ∧ r.2.mem ((c.tc : Thread Cert.CmpRefIdeal.nD Cert.CmpRefIdeal.τ).loc Cert.CmpRefIdeal.main_arg6) = m' ((c.tc : Thread Cert.CmpRefIdeal.nD Cert.CmpRefIdeal.τ).loc Cert.CmpRefIdeal.main_arg6)
          ∧ r.2.mem ((c.tc : Thread Cert.CmpRefIdeal.nD Cert.CmpRefIdeal.τ).loc Cert.CmpRefIdeal.main_arg7) = m' ((c.tc : Thread Cert.CmpRefIdeal.nD Cert.CmpRefIdeal.τ).loc Cert.CmpRefIdeal.main_arg7))

def preserves_Rwkv_RwkvIdeal : Prop :=
  True

def preserves_Prep_PrepIdeal : Prop :=
  True

def Claim : Prop :=
  ∃ (hMlp : Cert.Mlp.Facts) (hMlpIdeal : Cert.MlpIdeal.Facts) (hMlpRefIdeal : Cert.MlpRefIdeal.Facts) (hMop : Cert.Mop.Facts) (hMopIdeal : Cert.MopIdeal.Facts) (hMopRefIdeal : Cert.MopRefIdeal.Facts) (hInp : Cert.Inp.Facts) (hInpIdeal : Cert.InpIdeal.Facts) (hInpRefIdeal : Cert.InpRefIdeal.Facts) (hAda : Cert.Ada.Facts) (hAdaIdeal : Cert.AdaIdeal.Facts) (hAdaRefIdeal : Cert.AdaRefIdeal.Facts) (hCmp : Cert.Cmp.Facts) (hCmpIdeal : Cert.CmpIdeal.Facts) (hCmpRefIdeal : Cert.CmpRefIdeal.Facts) (hRwkv : Cert.Rwkv.Facts) (hRwkvIdeal : Cert.RwkvIdeal.Facts) (hRwkvRefIdeal : Cert.RwkvRefIdeal.Facts) (hPrep : Cert.Prep.Facts) (hPrepIdeal : Cert.PrepIdeal.Facts) (hPrepRefIdeal : Cert.PrepRefIdeal.Facts) (hPre_finite_keys : Cert.Pre_finite_keys.Facts),
    quiescent_Mlp (hMlp := hMlp)
    ∧ quiescent_MlpIdeal (hMlpIdeal := hMlpIdeal)
    ∧ quiescent_MlpRefIdeal (hMlpRefIdeal := hMlpRefIdeal)
    ∧ quiescent_Mop (hMop := hMop)
    ∧ quiescent_MopIdeal (hMopIdeal := hMopIdeal)
    ∧ quiescent_MopRefIdeal (hMopRefIdeal := hMopRefIdeal)
    ∧ quiescent_Inp (hInp := hInp)
    ∧ quiescent_InpIdeal (hInpIdeal := hInpIdeal)
    ∧ quiescent_InpRefIdeal (hInpRefIdeal := hInpRefIdeal)
    ∧ quiescent_Ada (hAda := hAda)
    ∧ quiescent_AdaIdeal (hAdaIdeal := hAdaIdeal)
    ∧ quiescent_AdaRefIdeal (hAdaRefIdeal := hAdaRefIdeal)
    ∧ quiescent_Cmp (hCmp := hCmp)
    ∧ quiescent_CmpIdeal (hCmpIdeal := hCmpIdeal)
    ∧ quiescent_CmpIdeal_pre_finite_keys (hCmpIdeal := hCmpIdeal) (hPre_finite_keys := hPre_finite_keys)
    ∧ quiescent_CmpRefIdeal (hCmpRefIdeal := hCmpRefIdeal)
    ∧ quiescent_CmpRefIdeal_pre_finite_keys (hCmpRefIdeal := hCmpRefIdeal) (hPre_finite_keys := hPre_finite_keys)
    ∧ quiescent_Rwkv (hRwkv := hRwkv)
    ∧ quiescent_RwkvIdeal (hRwkvIdeal := hRwkvIdeal)
    ∧ quiescent_RwkvRefIdeal (hRwkvRefIdeal := hRwkvRefIdeal)
    ∧ quiescent_Prep (hPrep := hPrep)
    ∧ quiescent_PrepIdeal (hPrepIdeal := hPrepIdeal)
    ∧ quiescent_PrepRefIdeal (hPrepRefIdeal := hPrepRefIdeal)
    ∧ preserves_Mlp_MlpIdeal
    ∧ algebraic_MlpIdeal_MlpRefIdeal (hMlpIdeal := hMlpIdeal) (hMlpRefIdeal := hMlpRefIdeal)
    ∧ preserves_Mop_MopIdeal
    ∧ algebraic_MopIdeal_MopRefIdeal (hMopIdeal := hMopIdeal) (hMopRefIdeal := hMopRefIdeal)
    ∧ preserves_Inp_InpIdeal
    ∧ algebraic_InpIdeal_InpRefIdeal (hInpIdeal := hInpIdeal) (hInpRefIdeal := hInpRefIdeal)
    ∧ preserves_Ada_AdaIdeal
    ∧ algebraic_AdaIdeal_AdaRefIdeal (hAdaIdeal := hAdaIdeal) (hAdaRefIdeal := hAdaRefIdeal)
    ∧ preserves_Cmp_CmpIdeal
    ∧ algebraic_CmpIdeal_CmpRefIdeal_pre_finite_keys (hCmpIdeal := hCmpIdeal) (hCmpRefIdeal := hCmpRefIdeal) (hPre_finite_keys := hPre_finite_keys)
    ∧ preserves_Rwkv_RwkvIdeal
    ∧ preserves_Prep_PrepIdeal
-- ==== Pre_finite_keys.lean ====
abbrev S8x2048x10064 : Shape := ⟨3, ![8, 2048, 10064]⟩
abbrev S1x32x64 : Shape := ⟨3, ![1, 32, 64]⟩
abbrev S1x2048x64 : Shape := ⟨3, ![1, 2048, 64]⟩
abbrev S1x64x64 : Shape := ⟨3, ![1, 64, 64]⟩
abbrev S1x3x64 : Shape := ⟨3, ![1, 3, 64]⟩
abbrev S8x2048x256 : Shape := ⟨3, ![8, 2048, 256]⟩
abbrev S_ : Shape := ⟨0, ![]⟩

class Facts : Prop where
  slices_S8x2048x10064_S8x2048x256_0_0_4384 : S8x2048x10064.Slices ![0, 0, 4384] S8x2048x256
  bcast_S_S8x2048x256 : S_.BroadcastsInDim S8x2048x256 (![] : Fin 0 → Fin S8x2048x256.rank)
  bcast_S_S1x32x64 : S_.BroadcastsInDim S1x32x64 (![] : Fin 0 → Fin S1x32x64.rank)
  bcast_S_S1x2048x64 : S_.BroadcastsInDim S1x2048x64 (![] : Fin 0 → Fin S1x2048x64.rank)
  bcast_S_S1x64x64 : S_.BroadcastsInDim S1x64x64 (![] : Fin 0 → Fin S1x64x64.rank)

variable [Facts]

def fn {F : FTy → Type} [FloatOps F] (main_arg0 : FVec F S8x2048x10064 .f32) (main_arg1 : FVec F S1x32x64 .f32) (main_arg2 : FVec F S1x2048x64 .f32) (main_arg3 : FVec F S1x64x64 .f32) (main_arg4 : FVec F S1x32x64 .f32) (main_arg5 : FVec F S1x2048x64 .f32) (main_arg6 : FVec F S1x64x64 .f32) (main_arg7 : FVec F S1x3x64 .f32) : IVec S8x2048x256 1 × IVec S1x32x64 1 × IVec S1x2048x64 1 × IVec S1x64x64 1 :=
  let main_v0 : FVec F S8x2048x256 .f32 := (extractStridedSlice S8x2048x256 ![0, 0, 4384] · slices_S8x2048x10064_S8x2048x256_0_0_4384) main_arg0
  let main_v1 : FVec F S8x2048x256 .f32 := Host.absf main_v0
  let main_cst : FVec F S_ .f32 := constant S_ .f32 0x7F800000#32
  let main_v2 : FVec F S8x2048x256 .f32 := broadcastInDim S8x2048x256 ![] bcast_S_S8x2048x256 main_cst
  let main_v3 : IVec S8x2048x256 1 := cmpf .olt main_v1 main_v2
  let main_v4 : FVec F S1x32x64 .f32 := Host.absf main_arg1
  let main_cst_0 : FVec F S_ .f32 := constant S_ .f32 0x7F800000#32
  let main_v5 : FVec F S1x32x64 .f32 := broadcastInDim S1x32x64 ![] bcast_S_S1x32x64 main_cst_0
  let main_v6 : IVec S1x32x64 1 := cmpf .olt main_v4 main_v5
  let main_v7 : FVec F S1x2048x64 .f32 := Host.absf main_arg2
  let main_cst_1 : FVec F S_ .f32 := constant S_ .f32 0x7F800000#32
  let main_v8 : FVec F S1x2048x64 .f32 := broadcastInDim S1x2048x64 ![] bcast_S_S1x2048x64 main_cst_1
  let main_v9 : IVec S1x2048x64 1 := cmpf .olt main_v7 main_v8
  let main_v10 : FVec F S1x64x64 .f32 := Host.absf main_arg3
  let main_cst_2 : FVec F S_ .f32 := constant S_ .f32 0x7F800000#32
  let main_v11 : FVec F S1x64x64 .f32 := broadcastInDim S1x64x64 ![] bcast_S_S1x64x64 main_cst_2
  let main_v12 : IVec S1x64x64 1 := cmpf .olt main_v10 main_v11
  (main_v3, main_v6, main_v9, main_v12)
-- ==== Mlp.lean ====
abbrev S8x2048x2048 : Shape := ⟨3, ![8, 2048, 2048]⟩
abbrev S1x2048x8192 : Shape := ⟨3, ![1, 2048, 8192]⟩
abbrev S1x8192x2048 : Shape := ⟨3, ![1, 8192, 2048]⟩
abbrev S8x12288 : Shape := ⟨2, ![8, 12288]⟩
abbrev S16384x2048 : Shape := ⟨2, ![16384, 2048]⟩
abbrev S48x1x2048 : Shape := ⟨3, ![48, 1, 2048]⟩
abbrev S2048x8192 : Shape := ⟨2, ![2048, 8192]⟩
abbrev S8192x2048 : Shape := ⟨2, ![8192, 2048]⟩
abbrev S512x2048 : Shape := ⟨2, ![512, 2048]⟩
abbrev S2048x1024 : Shape := ⟨2, ![2048, 1024]⟩
abbrev S1024x2048 : Shape := ⟨2, ![1024, 2048]⟩
abbrev S1x1x2048 : Shape := ⟨3, ![1, 1, 2048]⟩
abbrev S512x1024 : Shape := ⟨2, ![512, 1024]⟩
abbrev S1024x256 : Shape := ⟨2, ![1024, 256]⟩
abbrev S512x256 : Shape := ⟨2, ![512, 256]⟩
abbrev S1x2048 : Shape := ⟨2, ![1, 2048]⟩
abbrev S1x256 : Shape := ⟨2, ![1, 256]⟩

abbrev nBuf : Space → Nat
  | .hbm => 14
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S1x2048x8192, .f32⟩
  | .hbm, ⟨2, _⟩ => ⟨S1x8192x2048, .f32⟩
  | .hbm, ⟨3, _⟩ => ⟨S8x2048x2048, .f32⟩
  | .hbm, ⟨4, _⟩ => ⟨S8x12288, .f32⟩
  | .hbm, ⟨5, _⟩ => ⟨S16384x2048, .f32⟩
  | .hbm, ⟨6, _⟩ => ⟨S16384x2048, .bf16⟩
  | .hbm, ⟨7, _⟩ => ⟨S48x1x2048, .f32⟩
  | .hbm, ⟨8, _⟩ => ⟨S2048x8192, .f32⟩
  | .hbm, ⟨9, _⟩ => ⟨S2048x8192, .bf16⟩
  | .hbm, ⟨10, _⟩ => ⟨S8192x2048, .f32⟩
  | .hbm, ⟨11, _⟩ => ⟨S8192x2048, .bf16⟩
  | .hbm, ⟨12, _⟩ => ⟨S16384x2048, .f32⟩
  | .hbm, ⟨13, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 8], ![false, false]⟩

def k0_cond3 (i : grid0.Coords) : BitVec 1 :=
  let arg1 : BitVec 32 := BitVec.ofNat 32 (i 1).val
  let c7_i32_3 : BitVec 32 := 7#32
  let v8 : BitVec 1 := Scalar.cmpi .eq arg1 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== MlpRefIdeal.lean ====
abbrev S8x2048x2048 : Shape := ⟨3, ![8, 2048, 2048]⟩
abbrev S1x2048x8192 : Shape := ⟨3, ![1, 2048, 8192]⟩
abbrev S1x8192x2048 : Shape := ⟨3, ![1, 8192, 2048]⟩
abbrev S8x12288 : Shape := ⟨2, ![8, 12288]⟩
abbrev S8x1x12288 : Shape := ⟨3, ![8, 1, 12288]⟩
abbrev S8x1x2048 : Shape := ⟨3, ![8, 1, 2048]⟩
abbrev S2048x8192 : Shape := ⟨2, ![2048, 8192]⟩
abbrev S8x2048x8192 : Shape := ⟨3, ![8, 2048, 8192]⟩
abbrev S_ : Shape := ⟨0, ![]⟩
abbrev S8192x2048 : Shape := ⟨2, ![8192, 2048]⟩
abbrev S16384x2048 : Shape := ⟨2, ![16384, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048x8192, .f32⟩
  | .hbm, ⟨2, _⟩ => ⟨S1x8192x2048, .f32⟩
  | .hbm, ⟨3, _⟩ => ⟨S8x2048x2048, .f32⟩
  | .hbm, ⟨4, _⟩ => ⟨S8x12288, .f32⟩
  | .hbm, ⟨5, _⟩ => ⟨S8x1x12288, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x1x2048, .f32⟩
  | .hbm, ⟨12, _⟩ => ⟨S2048x8192, .f32⟩
  | .hbm, ⟨13, _⟩ => ⟨S8x2048x8192, .f32⟩
  | .hbm, ⟨14, _⟩ => ⟨S_, .f32⟩
  | .hbm, ⟨15, _⟩ => ⟨S8x2048x8192, .f32⟩
  | .hbm, ⟨16, _⟩ => ⟨S8x2048x8192, .f32⟩
  | .hbm, ⟨17, _⟩ => ⟨S8x2048x8192, .f32⟩
  | .hbm, ⟨18, _⟩ => ⟨S8192x2048, .f32⟩
  | .hbm, ⟨19, _⟩ => ⟨S8x2048x2048, .f32⟩
  | .hbm, ⟨20, _⟩ => ⟨S8x2048x2048, .f32⟩
  | .hbm, ⟨21, _⟩ => ⟨S8x2048x2048, .f32⟩
  | .hbm, ⟨22, _⟩ => ⟨S8x2048x2048, .f32⟩
  | .hbm, ⟨23, _⟩ => ⟨S16384x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Mop.lean ====
abbrev S8x2048x1024 : Shape := ⟨3, ![8, 2048, 1024]⟩
abbrev S1x1024x2048 : Shape := ⟨3, ![1, 1024, 2048]⟩
abbrev S8x2048x10064 : Shape := ⟨3, ![8, 2048, 10064]⟩
abbrev S1x2048x2048 : Shape := ⟨3, ![1, 2048, 2048]⟩
abbrev S8x2048x2048 : Shape := ⟨3, ![8, 2048, 2048]⟩
abbrev S8x12288 : Shape := ⟨2, ![8, 12288]⟩
abbrev S1x2048 : Shape := ⟨2, ![1, 2048]⟩
abbrev S16384x1024 : Shape := ⟨2, ![16384, 1024]⟩
abbrev S1024x2048 : Shape := ⟨2, ![1024, 2048]⟩
abbrev S1x16384x10064 : Shape := ⟨3, ![1, 16384, 10064]⟩
abbrev S16384x10064 : Shape := ⟨2, ![16384, 10064]⟩
abbrev S10064x16384 : Shape := ⟨2, ![10064, 16384]⟩
abbrev S1536x16384 : Shape := ⟨2, ![1536, 16384]⟩
abbrev S3x2x4x64x16384 : Shape := ⟨5, ![3, 2, 4, 64, 16384]⟩
abbrev S4x3x2x64x16384 : Shape := ⟨5, ![4, 3, 2, 64, 16384]⟩
abbrev S_ : Shape := ⟨0, ![]⟩
abbrev S176x16384 : Shape := ⟨2, ![176, 16384]⟩
abbrev S3072x16384 : Shape := ⟨2, ![3072, 16384]⟩
abbrev S1024x16384 : Shape := ⟨2, ![1024, 16384]⟩
abbrev S4096x16384 : Shape := ⟨2, ![4096, 16384]⟩
abbrev S288x16384 : Shape := ⟨2, ![288, 16384]⟩
abbrev S48x16384 : Shape := ⟨2, ![48, 16384]⟩
abbrev S10240x16384 : Shape := ⟨2, ![10240, 16384]⟩
abbrev S16384x10240 : Shape := ⟨2, ![16384, 10240]⟩
abbrev S2048x2048 : Shape := ⟨2, ![2048, 2048]⟩
abbrev S16384x2048 : Shape := ⟨2, ![16384, 2048]⟩
abbrev S48x1x2048 : Shape := ⟨3, ![48, 1, 2048]⟩
abbrev S256x1024 : Shape := ⟨2, ![256, 1024]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 40
  | .vmem => 24
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x2048, .f32⟩
  | .hbm, ⟨3, _⟩ => ⟨S1x1024x2048, .f32⟩
  | .hbm, ⟨4, _⟩ => ⟨S8x2048x10064, .f32⟩
  | .hbm, ⟨5, _⟩ => ⟨S1x2048x2048, .f32⟩
  | .hbm, ⟨6, _⟩ => ⟨S8x2048x2048, .f32⟩
  | .hbm, ⟨7, _⟩ => ⟨S8x12288, .f32⟩
  | .hbm, ⟨8, _⟩ => ⟨S1x2048, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .bf16⟩
  | .hbm, ⟨13, _⟩ => ⟨S1024x2048, .f32⟩
  | .hbm, ⟨14, _⟩ => ⟨S1024x2048, .bf16⟩
  | .hbm, ⟨15, _⟩ => ⟨S1024x2048, .f32⟩
  | .hbm, ⟨16, _⟩ => ⟨S1024x2048, .bf16⟩
  | .hbm, ⟨17, _⟩ => ⟨S1x16384x10064, .f32⟩
  | .hbm, ⟨18, _⟩ => ⟨S16384x10064, .f32⟩
  | .hbm, ⟨19, _⟩ => ⟨S10064x16384, .f32⟩
  | .hbm, ⟨20, _⟩ => ⟨S1536x16384, .f32⟩
  | .hbm, ⟨21, _⟩ => ⟨S3x2x4x64x16384, .f32⟩
  | .hbm, ⟨22, _⟩ => ⟨S4x3x2x64x16384, .f32⟩
  | .hbm, ⟨23, _⟩ => ⟨S1536x16384, .f32⟩
  | .hbm, ⟨24, _⟩ => ⟨S_, .f32⟩
  | .hbm, ⟨25, _⟩ => ⟨S176x16384, .f32⟩
  | .hbm, ⟨26, _⟩ => ⟨S3072x16384, .f32⟩
  | .hbm, ⟨27, _⟩ => ⟨S1024x16384, .f32⟩
  | .hbm, ⟨28, _⟩ => ⟨S4096x16384, .f32⟩
  | .hbm, ⟨29, _⟩ => ⟨S288x16384, .f32⟩
  | .hbm, ⟨30, _⟩ => ⟨S48x16384, .f32⟩
  | .hbm, ⟨31, _⟩ => ⟨S10240x16384, .f32⟩
  | .hbm, ⟨32, _⟩ => ⟨S10240x16384, .bf16⟩
  | .hbm, ⟨33, _⟩ => ⟨S16384x10240, .bf16⟩
  | .hbm, ⟨34, _⟩ => ⟨S2048x2048, .f32⟩
  | .hbm, ⟨35, _⟩ => ⟨S2048x2048, .bf16⟩
  | .hbm, ⟨36, _⟩ => ⟨S16384x2048, .f32⟩
  | .hbm, ⟨37, _⟩ => ⟨S48x1x2048, .f32⟩
  | .hbm, ⟨38, _⟩ => ⟨S16384x2048, .f32⟩
  | .hbm, ⟨39, _⟩ => ⟨S16384x2048, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1024x2048, .bf16⟩
  | .local _ .vmem, ⟨5, _⟩ => ⟨S1024x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S2048x2048, .bf16⟩
  | .local _ .vmem, ⟨11, _⟩ => ⟨S256x2048, .f32⟩
  | .local _ .vmem, ⟨12, _⟩ => ⟨S256x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x2048, .f32⟩
  | .local _ .vmem, ⟨16, _⟩ => ⟨S1x1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S256x2048, .f32⟩
  | .local _ .vmem, ⟨21, _⟩ => ⟨S256x2048, .f32⟩
  | .local _ .vmem, ⟨22, _⟩ => ⟨S256x2048, .bf16⟩
  | .local _ .vmem, ⟨23, _⟩ => ⟨S256x2048, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28_0 : Ref sig .tc := ⟨.hbm, 38, rfl⟩
abbrev main_v28_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_11 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32 : BitVec 32 := 4#32
  let v18 : BitVec 32 := Scalar.addi v17 c4_i32
  let c0_i32_4 : BitVec 32 := 0#32
  let c0_i32_5 : BitVec 32 := 0#32
  let c0_i32_6 : BitVec 32 := 0#32
  ![v18.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MopRefIdeal.lean ====
abbrev S8x2048x1024 : Shape := ⟨3, ![8, 2048, 1024]⟩
abbrev S1x1024x2048 : Shape := ⟨3, ![1, 1024, 2048]⟩
abbrev S8x2048x10064 : Shape := ⟨3, ![8, 2048, 10064]⟩
abbrev S1x2048x2048 : Shape := ⟨3, ![1, 2048, 2048]⟩
abbrev S8x2048x2048 : Shape := ⟨3, ![8, 2048, 2048]⟩
abbrev S8x12288 : Shape := ⟨2, ![8, 12288]⟩
abbrev S1x2048 : Shape := ⟨2, ![1, 2048]⟩
abbrev S8x1x12288 : Shape := ⟨3, ![8, 1, 12288]⟩
abbrev S8x1x2048 : Shape := ⟨3, ![8, 1, 2048]⟩
abbrev S8x2048x4096 : Shape := ⟨3, ![8, 2048, 4096]⟩
abbrev S_ : Shape := ⟨0, ![]⟩
abbrev S1024x2048 : Shape := ⟨2, ![1024, 2048]⟩
abbrev S2048x2048 : Shape := ⟨2, ![2048, 2048]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S16384x2048 : Shape := ⟨2, ![16384, 2048]⟩

abbrev nBuf : Space → Nat
  | .hbm => 66
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S1x1024x2048, .f32⟩
  | .hbm, ⟨3, _⟩ => ⟨S1x1024x2048, .f32⟩
  | .hbm, ⟨4, _⟩ => ⟨S8x2048x10064, .f32⟩
  | .hbm, ⟨5, _⟩ => ⟨S1x2048x2048, .f32⟩
  | .hbm, ⟨6, _⟩ => ⟨S8x2048x2048, .f32⟩
  | .hbm, ⟨7, _⟩ => ⟨S8x12288, .f32⟩
  | .hbm, ⟨8, _⟩ => ⟨S1x2048, .f32⟩
  | .hbm, ⟨9, _⟩ => ⟨S8x1x12288, .f32⟩
  | .hbm, ⟨10, _⟩ => ⟨S8x1x2048, .f32⟩
  | .hbm, ⟨11, _⟩ => ⟨S8x1x2048, .f32⟩
  | .hbm, ⟨12, _⟩ => ⟨S8x1x2048, .f32⟩
  | .hbm, ⟨13, _⟩ => ⟨S8x1x2048, .f32⟩
  | .hbm, ⟨14, _⟩ => ⟨S8x1x2048, .f32⟩
  | .hbm, ⟨15, _⟩ => ⟨S8x1x2048, .f32⟩
  | .hbm, ⟨16, _⟩ => ⟨S8x2048x4096, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S_, .f32⟩
  | .hbm, ⟨23, _⟩ => ⟨S8x2048x4096, .f32⟩
  | .hbm, ⟨24, _⟩ => ⟨S8x2048x4096, .f32⟩
  | .hbm, ⟨25, _⟩ => ⟨S1024x2048, .f32⟩
  | .hbm, ⟨26, _⟩ => ⟨S8x2048x2048, .f32⟩
  | .hbm, ⟨27, _⟩ => ⟨S1024x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S2048x2048, .f32⟩
  | .hbm, ⟨35, _⟩ => ⟨S8x2048x2048, .f32⟩
  | .hbm, ⟨36, _⟩ => ⟨S8x2048x2048, .f32⟩
  | .hbm, ⟨37, _⟩ => ⟨S8x2048x2048, .f32⟩
  | .hbm, ⟨38, _⟩ => ⟨S8x2048x2048, .f32⟩
  | .hbm, ⟨39, _⟩ => ⟨S8x2048x2048, .f32⟩
  | .hbm, ⟨40, _⟩ => ⟨S_, .f32⟩
  | .hbm, ⟨41, _⟩ => ⟨S8x2048, .f32⟩
  | .hbm, ⟨42, _⟩ => ⟨S8x2048x1, .f32⟩
  | .hbm, ⟨43, _⟩ => ⟨S_, .f32⟩
  | .hbm, ⟨44, _⟩ => ⟨S8x2048x1, .f32⟩
  | .hbm, ⟨45, _⟩ => ⟨S8x2048x1, .f32⟩
  | .hbm, ⟨46, _⟩ => ⟨S_, .f32⟩
  | .hbm, ⟨47, _⟩ => ⟨S8x2048x1, .f32⟩
  | .hbm, ⟨48, _⟩ => ⟨S8x2048x1, .f32⟩
  | .hbm, ⟨49, _⟩ => ⟨S8x2048x1, .f32⟩
  | .hbm, ⟨50, _⟩ => ⟨S8x2048x2048, .f32⟩
  | .hbm, ⟨51, _⟩ => ⟨S8x2048x2048, .f32⟩
  | .hbm, ⟨52, _⟩ => ⟨S2048, .f32⟩
  | .hbm, ⟨53, _⟩ => ⟨S1x1x2048, .f32⟩
  | .hbm, ⟨54, _⟩ => ⟨S8x2048x2048, .f32⟩
  | .hbm, ⟨55, _⟩ => ⟨S8x2048x2048, .f32⟩
  | .hbm, ⟨56, _⟩ => ⟨S_, .f32⟩
  | .hbm, ⟨57, _⟩ => ⟨S8x1x2048, .f32⟩
  | .hbm, ⟨58, _⟩ => ⟨S8x1x2048, .f32⟩
  | .hbm, ⟨59, _⟩ => ⟨S8x2048x2048, .f32⟩
  | .hbm, ⟨60, _⟩ => ⟨S8x2048x2048, .f32⟩
  | .hbm, ⟨61, _⟩ => ⟨S8x2048x2048, .f32⟩
  | .hbm, ⟨62, _⟩ => ⟨S8x2048x2048, .f32⟩
  | .hbm, ⟨63, _⟩ => ⟨S16384x2048, .f32⟩
  | .hbm, ⟨64, _⟩ => ⟨S16384x2048, .f32⟩
  | .hbm, ⟨65, _⟩ => ⟨S16384x2048, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_cst_3 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_4 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Inp.lean ====
abbrev S8x2048x2048 : Shape := ⟨3, ![8, 2048, 2048]⟩
abbrev S1x2048 : Shape := ⟨2, ![1, 2048]⟩
abbrev S8x12288 : Shape := ⟨2, ![8, 12288]⟩
abbrev S1x2048x10064 : Shape := ⟨3, ![1, 2048, 10064]⟩
abbrev S16384x2048 : Shape := ⟨2, ![16384, 2048]⟩
abbrev S48x1x2048 : Shape := ⟨3, ![48, 1, 2048]⟩
abbrev S2048x10064 : Shape := ⟨2, ![2048, 10064]⟩
abbrev S10064x2048 : Shape := ⟨2, ![10064, 2048]⟩
abbrev S1536x2048 : Shape := ⟨2, ![1536, 2048]⟩
abbrev S3x2x4x64x2048 : Shape := ⟨5, ![3, 2, 4, 64, 2048]⟩
abbrev S4x3x2x64x2048 : Shape := ⟨5, ![4, 3, 2, 64, 2048]⟩
abbrev S_ : Shape := ⟨0, ![]⟩
abbrev S176x2048 : Shape := ⟨2, ![176, 2048]⟩
abbrev S3072x2048 : Shape := ⟨2, ![3072, 2048]⟩
abbrev S1024x2048 : Shape := ⟨2, ![1024, 2048]⟩
abbrev S4096x2048 : Shape := ⟨2, ![4096, 2048]⟩
abbrev S288x2048 : Shape := ⟨2, ![288, 2048]⟩
abbrev S48x2048 : Shape := ⟨2, ![48, 2048]⟩
abbrev S10240x2048 : Shape := ⟨2, ![10240, 2048]⟩
abbrev S16384x10240 : Shape := ⟨2, ![16384, 10240]⟩
abbrev S16384x512 : Shape := ⟨2, ![16384, 512]⟩
abbrev S1x1x2048 : Shape := ⟨3, ![1, 1, 2048]⟩
abbrev S1024x1024 : Shape := ⟨2, ![1024, 1024]⟩
abbrev S1024x512 : Shape := ⟨2, ![1024, 512]⟩
abbrev S1024 : Shape := ⟨1, ![1024]⟩
abbrev S1024x1 : Shape := ⟨2, ![1024, 1]⟩

abbrev nBuf : Space → Nat
  | .hbm => 23
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S8x12288, .f32⟩
  | .hbm, ⟨3, _⟩ => ⟨S1x2048x10064, .f32⟩
  | .hbm, ⟨4, _⟩ => ⟨S16384x2048, .f32⟩
  | .hbm, ⟨5, _⟩ => ⟨S48x1x2048, .f32⟩
  | .hbm, ⟨6, _⟩ => ⟨S2048x10064, .f32⟩
  | .hbm, ⟨7, _⟩ => ⟨S10064x2048, .f32⟩
  | .hbm, ⟨8, _⟩ => ⟨S1536x2048, .f32⟩
  | .hbm, ⟨9, _⟩ => ⟨S3x2x4x64x2048, .f32⟩
  | .hbm, ⟨10, _⟩ => ⟨S4x3x2x64x2048, .f32⟩
  | .hbm, ⟨11, _⟩ => ⟨S1536x2048, .f32⟩
  | .hbm, ⟨12, _⟩ => ⟨S_, .f32⟩
  | .hbm, ⟨13, _⟩ => ⟨S176x2048, .f32⟩
  | .hbm, ⟨14, _⟩ => ⟨S3072x2048, .f32⟩
  | .hbm, ⟨15, _⟩ => ⟨S1024x2048, .f32⟩
  | .hbm, ⟨16, _⟩ => ⟨S4096x2048, .f32⟩
  | .hbm, ⟨17, _⟩ => ⟨S288x2048, .f32⟩
  | .hbm, ⟨18, _⟩ => ⟨S48x2048, .f32⟩
  | .hbm, ⟨19, _⟩ => ⟨S10240x2048, .f32⟩
  | .hbm, ⟨20, _⟩ => ⟨S10240x2048, .bf16⟩
  | .hbm, ⟨21, _⟩ => ⟨S16384x10240, .bf16⟩
  | .hbm, ⟨22, _⟩ => ⟨S16384x512, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | .local _ .vmem, ⟨10, _⟩ => ⟨S1024x1024, .bf16⟩
  | .local _ .vmem, ⟨11, _⟩ => ⟨S1024x512, .f32⟩
  | .local _ .vmem, ⟨12, _⟩ => ⟨S1024x512, .f32⟩
  | .local _ .vmem, ⟨13, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 10], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c9_i32 : BitVec 32 := 9#32
  let v4 : BitVec 1 := Scalar.cmpi .slt arg1 c9_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c9_i32_3 : BitVec 32 := 9#32
  let v8 : BitVec 1 := Scalar.cmpi .eq arg1 c9_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== InpRefIdeal.lean ====
abbrev S8x2048x2048 : Shape := ⟨3, ![8, 2048, 2048]⟩
abbrev S1x2048 : Shape := ⟨2, ![1, 2048]⟩
abbrev S8x12288 : Shape := ⟨2, ![8, 12288]⟩
abbrev S1x2048x10064 : Shape := ⟨3, ![1, 2048, 10064]⟩
abbrev S8x1x12288 : Shape := ⟨3, ![8, 1, 12288]⟩
abbrev S8x1x2048 : Shape := ⟨3, ![8, 1, 2048]⟩
abbrev S_ : Shape := ⟨0, ![]⟩
abbrev S8x2048 : Shape := ⟨2, ![8, 2048]⟩
abbrev S8x2048x1 : Shape := ⟨3, ![8, 2048, 1]⟩
abbrev S2048 : Shape := ⟨1, ![2048]⟩
abbrev S1x1x2048 : Shape := ⟨3, ![1, 1, 2048]⟩
abbrev S2048x10064 : Shape := ⟨2, ![2048, 10064]⟩
abbrev S8x2048x10064 : Shape := ⟨3, ![8, 2048, 10064]⟩
abbrev S16384x10064 : Shape := ⟨2, ![16384, 10064]⟩
abbrev S16384x1536 : Shape := ⟨2, ![16384, 1536]⟩
abbrev S16384x6x4x64 : Shape := ⟨4, ![16384, 6, 4, 64]⟩
abbrev S16384x4x6x64 : Shape := ⟨4, ![16384, 4, 6, 64]⟩
abbrev S16384x288 : Shape := ⟨2, ![16384, 288]⟩
abbrev S16384x48 : Shape := ⟨2, ![16384, 48]⟩
abbrev S16384x176 : Shape := ⟨2, ![16384, 176]⟩
abbrev S16384x512 : Shape := ⟨2, ![16384, 512]⟩
abbrev S16384x3072 : Shape := ⟨2, ![16384, 3072]⟩
abbrev S16384x1024 : Shape := ⟨2, ![16384, 1024]⟩
abbrev S16384x4096 : Shape := ⟨2, ![16384, 4096]⟩
abbrev S16384x10240 : Shape := ⟨2, ![16384, 10240]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S1x2048, .f32⟩
  | .hbm, ⟨2, _⟩ => ⟨S8x12288, .f32⟩
  | .hbm, ⟨3, _⟩ => ⟨S1x2048x10064, .f32⟩
  | .hbm, ⟨4, _⟩ => ⟨S8x1x12288, .f32⟩
  | .hbm, ⟨5, _⟩ => ⟨S8x1x2048, .f32⟩
  | .hbm, ⟨6, _⟩ => ⟨S8x1x2048, .f32⟩
  | .hbm, ⟨7, _⟩ => ⟨S8x1x2048, .f32⟩
  | .hbm, ⟨8, _⟩ => ⟨S8x1x2048, .f32⟩
  | .hbm, ⟨9, _⟩ => ⟨S8x1x2048, .f32⟩
  | .hbm, ⟨10, _⟩ => ⟨S8x1x2048, .f32⟩
  | .hbm, ⟨11, _⟩ => ⟨S8x2048x2048, .f32⟩
  | .hbm, ⟨12, _⟩ => ⟨S_, .f32⟩
  | .hbm, ⟨13, _⟩ => ⟨S8x2048, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S_, .f32⟩
  | .hbm, ⟨19, _⟩ => ⟨S8x2048x1, .f32⟩
  | .hbm, ⟨20, _⟩ => ⟨S8x2048x1, .f32⟩
  | .hbm, ⟨21, _⟩ => ⟨S8x2048x1, .f32⟩
  | .hbm, ⟨22, _⟩ => ⟨S8x2048x2048, .f32⟩
  | .hbm, ⟨23, _⟩ => ⟨S8x2048x2048, .f32⟩
  | .hbm, ⟨24, _⟩ => ⟨S2048, .f32⟩
  | .hbm, ⟨25, _⟩ => ⟨S1x1x2048, .f32⟩
  | .hbm, ⟨26, _⟩ => ⟨S8x2048x2048, .f32⟩
  | .hbm, ⟨27, _⟩ => ⟨S8x2048x2048, .f32⟩
  | .hbm, ⟨28, _⟩ => ⟨S_, .f32⟩
  | .hbm, ⟨29, _⟩ => ⟨S8x1x2048, .f32⟩
  | .hbm, ⟨30, _⟩ => ⟨S8x1x2048, .f32⟩
  | .hbm, ⟨31, _⟩ => ⟨S8x2048x2048, .f32⟩
  | .hbm, ⟨32, _⟩ => ⟨S8x2048x2048, .f32⟩
  | .hbm, ⟨33, _⟩ => ⟨S8x2048x2048, .f32⟩
  | .hbm, ⟨34, _⟩ => ⟨S8x2048x2048, .f32⟩
  | .hbm, ⟨35, _⟩ => ⟨S2048x10064, .f32⟩
  | .hbm, ⟨36, _⟩ => ⟨S8x2048x10064, .f32⟩
  | .hbm, ⟨37, _⟩ => ⟨S16384x10064, .f32⟩
  | .hbm, ⟨38, _⟩ => ⟨S16384x1536, .f32⟩
  | .hbm, ⟨39, _⟩ => ⟨S16384x6x4x64, .f32⟩
  | .hbm, ⟨40, _⟩ => ⟨S16384x4x6x64, .f32⟩
  | .hbm, ⟨41, _⟩ => ⟨S16384x1536, .f32⟩
  | .hbm, ⟨42, _⟩ => ⟨S16384x288, .f32⟩
  | .hbm, ⟨43, _⟩ => ⟨S16384x48, .f32⟩
  | .hbm, ⟨44, _⟩ => ⟨S_, .f32⟩
  | .hbm, ⟨45, _⟩ => ⟨S16384x176, .f32⟩
  | .hbm, ⟨46, _⟩ => ⟨S16384x512, .f32⟩
  | .hbm, ⟨47, _⟩ => ⟨S16384x3072, .f32⟩
  | .hbm, ⟨48, _⟩ => ⟨S16384x1024, .f32⟩
  | .hbm, ⟨49, _⟩ => ⟨S16384x4096, .f32⟩
  | .hbm, ⟨50, _⟩ => ⟨S16384x10240, .f32⟩
  | .hbm, ⟨51, _⟩ => ⟨S16384x10240, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_3 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩

abbrev nD : Nat := 1
abbrev τ : Topo := Topo.v7x

variable {F : FTy → Type} [FloatOps F]
-- ==== Ada.lean ====
abbrev S8x2048 : Shape := ⟨2, ![8, 2048]⟩
abbrev S1x2048x12288 : Shape := ⟨3, ![1, 2048, 12288]⟩
abbrev S1x12288 : Shape := ⟨2, ![1, 12288]⟩
abbrev S2048x12288 : Shape := ⟨2, ![2048, 12288]⟩
abbrev S12288 : Shape := ⟨1, ![12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S2048x12288, .f32⟩
  | .hbm, ⟨4, _⟩ => ⟨S12288, .f32⟩
  | .hbm, ⟨5, _⟩ => ⟨S1x12288, .f32⟩
  | .hbm, ⟨6, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S8x2048 : Shape := ⟨2, ![8, 2048]⟩
abbrev S1x2048x12288 : Shape := ⟨3, ![1, 2048, 12288]⟩
abbrev S1x12288 : Shape := ⟨2, ![1, 12288]⟩
abbrev S_ : Shape := ⟨0, ![]⟩
abbrev S2048x12288 : Shape := ⟨2, ![2048, 12288]⟩
abbrev S8x12288 : Shape := ⟨2, ![8, 12288]⟩
abbrev S12288 : Shape := ⟨1, ![12288]⟩

abbrev nBuf : Space → Nat
  | .hbm => 18
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S1x2048x12288, .f32⟩
  | .hbm, ⟨2, _⟩ => ⟨S1x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S2048x12288, .f32⟩
  | .hbm, ⟨13, _⟩ => ⟨S8x12288, .f32⟩
  | .hbm, ⟨14, _⟩ => ⟨S12288, .f32⟩
  | .hbm, ⟨15, _⟩ => ⟨S1x12288, .f32⟩
  | .hbm, ⟨16, _⟩ => ⟨S8x12288, .f32⟩
  | .hbm, ⟨17, _⟩ => ⟨S8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Cmp.lean ====
abbrev S8x2048x10064 : Shape := ⟨3, ![8, 2048, 10064]⟩
abbrev S1x32x64 : Shape := ⟨3, ![1, 32, 64]⟩
abbrev S1x2048x64 : Shape := ⟨3, ![1, 2048, 64]⟩
abbrev S1x64x64 : Shape := ⟨3, ![1, 64, 64]⟩
abbrev S1x3x64 : Shape := ⟨3, ![1, 3, 64]⟩
abbrev S32x64 : Shape := ⟨2, ![32, 64]⟩
abbrev S2048x64 : Shape := ⟨2, ![2048, 64]⟩
abbrev S64x64 : Shape := ⟨2, ![64, 64]⟩
abbrev S3x64 : Shape := ⟨2, ![3, 64]⟩
abbrev S_ : Shape := ⟨0, ![]⟩
abbrev S64 : Shape := ⟨1, ![64]⟩
abbrev S32x64x64 : Shape := ⟨3, ![32, 64, 64]⟩
abbrev S32x128x128 : Shape := ⟨3, ![32, 128, 128]⟩
abbrev S32x128 : Shape := ⟨2, ![32, 128]⟩
abbrev S1x64 : Shape := ⟨2, ![1, 64]⟩
abbrev S128 : Shape := ⟨1, ![128]⟩
abbrev S1x128 : Shape := ⟨2, ![1, 128]⟩
abbrev S16x128 : Shape := ⟨2, ![16, 128]⟩
abbrev S1x2048 : Shape := ⟨2, ![1, 2048]⟩
abbrev S16x128x128 : Shape := ⟨3, ![16, 128, 128]⟩
abbrev S2048x128 : Shape := ⟨2, ![2048, 128]⟩
abbrev S128x128 : Shape := ⟨2, ![128, 128]⟩
abbrev S1x16384x10064 : Shape := ⟨3, ![1, 16384, 10064]⟩
abbrev S16384x10064 : Shape := ⟨2, ![16384, 10064]⟩
abbrev S10064x16384 : Shape := ⟨2, ![10064, 16384]⟩
abbrev S1536x16384 : Shape := ⟨2, ![1536, 16384]⟩
abbrev S3x2x4x64x16384 : Shape := ⟨5, ![3, 2, 4, 64, 16384]⟩
abbrev S4x3x2x64x16384 : Shape := ⟨5, ![4, 3, 2, 64, 16384]⟩
abbrev S176x16384 : Shape := ⟨2, ![176, 16384]⟩
abbrev S3072x16384 : Shape := ⟨2, ![3072, 16384]⟩
abbrev S1024x16384 : Shape := ⟨2, ![1024, 16384]⟩
abbrev S4096x16384 : Shape := ⟨2, ![4096, 16384]⟩
abbrev S288x16384 : Shape := ⟨2, ![288, 16384]⟩
abbrev S48x16384 : Shape := ⟨2, ![48, 16384]⟩
abbrev S10240x16384 : Shape := ⟨2, ![10240, 16384]⟩
abbrev S16384x10240 : Shape := ⟨2, ![16384, 10240]⟩
abbrev S8x4x128x128 : Shape := ⟨4, ![8, 4, 128, 128]⟩
abbrev S1x1x128x128 : Shape := ⟨4, ![1, 1, 128, 128]⟩
abbrev S128x2048 : Shape := ⟨2, ![128, 2048]⟩

abbrev nBuf : Space → Nat
  | .hbm => 68
  | .vmem => 13
  | .smem => 0
  | _ => 0

abbrev bufTy : (tb : Table) → Fin (tcTables nBuf tb) → BufTy
  | .hbm, ⟨0, _⟩ => ⟨S8x2048x10064, .f32⟩
  | .hbm, ⟨1, _⟩ => ⟨S1x32x64, .f32⟩
  | .hbm, ⟨2, _⟩ => ⟨S1x2048x64, .f32⟩
  | .hbm, ⟨3, _⟩ => ⟨S1x64x64, .f32⟩
  | .hbm, ⟨4, _⟩ => ⟨S1x32x64, .f32⟩
  | .hbm, ⟨5, _⟩ => ⟨S1x2048x64, .f32⟩
  | .hbm, ⟨6, _⟩ => ⟨S1x64x64, .f32⟩
  | .hbm, ⟨7, _⟩ => ⟨S1x3x64, .f32⟩
  | .hbm, ⟨8, _⟩ => ⟨S32x64, .f32⟩
  | .hbm, ⟨9, _⟩ => ⟨S2048x64, .f32⟩
  | .hbm, ⟨10, _⟩ => ⟨S64x64, .f32⟩
  | .hbm, ⟨11, _⟩ => ⟨S32x64, .f32⟩
  | .hbm, ⟨12, _⟩ => ⟨S2048x64, .f32⟩
  | .hbm, ⟨13, _⟩ => ⟨S64x64, .f32⟩
  | .hbm, ⟨14, _⟩ => ⟨S3x64, .f32⟩
  | .hbm, ⟨15, _⟩ => ⟨S_, .f32⟩
  | .hbm, ⟨16, _⟩ => ⟨S64, .f32⟩
  | .hbm, ⟨17, _⟩ => ⟨S32x64x64, .f32⟩
  | .hbm, ⟨18, _⟩ => ⟨S32x64x64, .f32⟩
  | .hbm, ⟨19, _⟩ => ⟨S_, .i32⟩
  | .hbm, ⟨20, _⟩ => ⟨S_, .f32⟩
  | .hbm, ⟨21, _⟩ => ⟨S32x128x128, .f32⟩
  | .hbm, ⟨22, _⟩ => ⟨S_, .i32⟩
  | .hbm, ⟨23, _⟩ => ⟨S_, .f32⟩
  | .hbm, ⟨24, _⟩ => ⟨S32x128x128, .f32⟩
  | .hbm, ⟨25, _⟩ => ⟨S32x128x128, .f32⟩
  | .hbm, ⟨26, _⟩ => ⟨S32x128, .f32⟩
  | .hbm, ⟨27, _⟩ => ⟨S1x64, .f32⟩
  | .hbm, ⟨28, _⟩ => ⟨S64, .f32⟩
  | .hbm, ⟨29, _⟩ => ⟨S128, .f32⟩
  | .hbm, ⟨30, _⟩ => ⟨S1x128, .f32⟩
  | .hbm, ⟨31, _⟩ => ⟨S16x128, .f32⟩
  | .hbm, ⟨32, _⟩ => ⟨S1x2048, .f32⟩
  | .hbm, ⟨33, _⟩ => ⟨S16x128, .f32⟩
  | .hbm, ⟨34, _⟩ => ⟨S1x2048, .f32⟩
  | .hbm, ⟨35, _⟩ => ⟨S16x128x128, .f32⟩
  | .hbm, ⟨36, _⟩ => ⟨S2048x128, .f32⟩
  | .hbm, ⟨37, _⟩ => ⟨S2048x128, .bf16⟩
  | .hbm, ⟨38, _⟩ => ⟨S16x128x128, .f32⟩
  | .hbm, ⟨39, _⟩ => ⟨S2048x128, .f32⟩
  | .hbm, ⟨40, _⟩ => ⟨S2048x128, .bf16⟩
  | .hbm, ⟨41, _⟩ => ⟨S_, .i32⟩
  | .hbm, ⟨42, _⟩ => ⟨S_, .f32⟩
  | .hbm, ⟨43, _⟩ => ⟨S128x128, .f32⟩
  | .hbm, ⟨44, _⟩ => ⟨S_, .i32⟩
  | .hbm, ⟨45, _⟩ => ⟨S_, .f32⟩
  | .hbm, ⟨46, _⟩ => ⟨S128x128, .f32⟩
  | .hbm, ⟨47, _⟩ => ⟨S128x128, .f32⟩
  | .hbm, ⟨48, _⟩ => ⟨S128x128, .bf16⟩
  | .hbm, ⟨49, _⟩ => ⟨S1x16384x10064, .f32⟩
  | .hbm, ⟨50, _⟩ => ⟨S16384x10064, .f32⟩
  | .hbm, ⟨51, _⟩ => ⟨S10064x16384, .f32⟩
  | .hbm, ⟨52, _⟩ => ⟨S1536x16384, .f32⟩
  | .hbm, ⟨53, _⟩ => ⟨S3x2x4x64x16384, .f32⟩
  | .hbm, ⟨54, _⟩ => ⟨S4x3x2x64x16384, .f32⟩
  | .hbm, ⟨55, _⟩ => ⟨S1536x16384, .f32⟩
  | .hbm, ⟨56, _⟩ => ⟨S_, .f32⟩
  | .hbm, ⟨57, _⟩ => ⟨S176x16384, .f32⟩
  | .hbm, ⟨58, _⟩ => ⟨S3072x16384, .f32⟩
  | .hbm, ⟨59, _⟩ => ⟨S1024x16384, .f32⟩
  | .hbm, ⟨60, _⟩ => ⟨S4096x16384, .f32⟩
  | .hbm, ⟨61, _⟩ => ⟨S288x16384, .f32⟩
  | .hbm, ⟨62, _⟩ => ⟨S48x16384, .f32⟩
  | .hbm, ⟨63, _⟩ => ⟨S10240x16384, .f32⟩
  | .hbm, ⟨64, _⟩ => ⟨S10240x16384, .bf16⟩
  | .hbm, ⟨65, _⟩ => ⟨S16384x10240, .bf16⟩
  | .hbm, ⟨66, _⟩ => ⟨S8x4x128x128, .bf16⟩
  | .hbm, ⟨67, _⟩ => ⟨S8x4x128x128, .bf16⟩
  | .local _ .vmem, ⟨0, _⟩ => ⟨S2048x128, .bf16⟩
  | .local _ .vmem, ⟨1, _⟩ => ⟨S2048x128, .bf16⟩
  | .local _ .vmem, ⟨2, _⟩ => ⟨S1x2048, .f32⟩
  | .local _ .vmem, ⟨3, _⟩ => ⟨S1x2048, .f32⟩
  | .local _ .vmem, ⟨4, _⟩ => ⟨S2048x128, .bf16⟩
  | .local _ .vmem, ⟨5, _⟩ => ⟨S2048x128, .bf16⟩
  | .local _ .vmem, ⟨6, _⟩ => ⟨S128x128, .bf16⟩
  | .local _ .vmem, ⟨7, _⟩ => ⟨S1x128, .f32⟩
  | .local _ .vmem, ⟨8, _⟩ => ⟨S1x1x128x128, .bf16⟩
  | .local _ .vmem, ⟨9, _⟩ => ⟨S1x1x128x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S2048x128, .f32⟩
  | _, _ => ⟨S8x2048x10064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c : Ref sig .tc := ⟨.hbm, 19, rfl⟩
abbrev main_call0_v0 : Ref sig .tc := ⟨.hbm, 20, rfl⟩
abbrev main_v10 : Ref sig .tc := ⟨.hbm, 21, rfl⟩
abbrev main_c_0 : Ref sig .tc := ⟨.hbm, 22, rfl⟩
abbrev main_call1_v0 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_1 : Ref sig .tc := ⟨.hbm, 41, rfl⟩
abbrev main_call2_v0 : Ref sig .tc := ⟨.hbm, 42, rfl⟩
abbrev main_v28 : Ref sig .tc := ⟨.hbm, 43, rfl⟩
abbrev main_c_2 : Ref sig .tc := ⟨.hbm, 44, rfl⟩
abbrev main_call3_v0 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_3 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48_0 : Ref sig .tc := ⟨.hbm, 66, rfl⟩
abbrev main_v48_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.muli c3_i32 arg1
  let c64_i32 : BitVec 32 := 64#32
  let v1 : BitVec 32 := Scalar.addi c64_i32 v0
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== CmpRefIdeal.lean ====
abbrev S8x2048x10064 : Shape := ⟨3, ![8, 2048, 10064]⟩
abbrev S1x32x64 : Shape := ⟨3, ![1, 32, 64]⟩
abbrev S1x2048x64 : Shape := ⟨3, ![1, 2048, 64]⟩
abbrev S1x64x64 : Shape := ⟨3, ![1, 64, 64]⟩
abbrev S1x3x64 : Shape := ⟨3, ![1, 3, 64]⟩
abbrev S8x2048x1536 : Shape := ⟨3, ![8, 2048, 1536]⟩
abbrev S8x2048x6x4x64 : Shape := ⟨5, ![8, 2048, 6, 4, 64]⟩
abbrev S8x2048x1x4x64 : Shape := ⟨5, ![8, 2048, 1, 4, 64]⟩
abbrev S8x2048x4x64 : Shape := ⟨4, ![8, 2048, 4, 64]⟩
abbrev S32x64 : Shape := ⟨2, ![32, 64]⟩
abbrev S2048x64 : Shape := ⟨2, ![2048, 64]⟩
abbrev S64x64 : Shape := ⟨2, ![64, 64]⟩
abbrev S8x128x16x4x64 : Shape := ⟨5, ![8, 128, 16, 4, 64]⟩
abbrev S8x127x16x4x64 : Shape := ⟨5, ![8, 127, 16, 4, 64]⟩
abbrev S8x1x16x4x64 : Shape := ⟨5, ![8, 1, 16, 4, 64]⟩
abbrev S8x128x32x4x64 : Shape := ⟨5, ![8, 128, 32, 4, 64]⟩
abbrev S32x1x64 : Shape := ⟨3, ![32, 1, 64]⟩
abbrev S1x1x32x1x64 : Shape := ⟨5, ![1, 1, 32, 1, 64]⟩
abbrev S8x128x4x32x64 : Shape := ⟨5, ![8, 128, 4, 32, 64]⟩
abbrev S8x128x4x2048 : Shape := ⟨4, ![8, 128, 4, 2048]⟩
abbrev S8x128x4x64 : Shape := ⟨4, ![8, 128, 4, 64]⟩
abbrev S_ : Shape := ⟨0, ![]⟩
abbrev S8x128x4 : Shape := ⟨3, ![8, 128, 4]⟩
abbrev S8x128x4x1 : Shape := ⟨4, ![8, 128, 4, 1]⟩
abbrev S1x1x64 : Shape := ⟨3, ![1, 1, 64]⟩
abbrev S64 : Shape := ⟨1, ![64]⟩
abbrev S1x1x1x64 : Shape := ⟨4, ![1, 1, 1, 64]⟩
abbrev S8x4x128x64 : Shape := ⟨4, ![8, 4, 128, 64]⟩
abbrev S8x4x128x128 : Shape := ⟨4, ![8, 4, 128, 128]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x10064, .f32⟩
  | .hbm, ⟨1, _⟩ => ⟨S1x32x64, .f32⟩
  | .hbm, ⟨2, _⟩ => ⟨S1x2048x64, .f32⟩
  | .hbm, ⟨3, _⟩ => ⟨S1x64x64, .f32⟩
  | .hbm, ⟨4, _⟩ => ⟨S1x32x64, .f32⟩
  | .hbm, ⟨5, _⟩ => ⟨S1x2048x64, .f32⟩
  | .hbm, ⟨6, _⟩ => ⟨S1x64x64, .f32⟩
  | .hbm, ⟨7, _⟩ => ⟨S1x3x64, .f32⟩
  | .hbm, ⟨8, _⟩ => ⟨S8x2048x1536, .f32⟩
  | .hbm, ⟨9, _⟩ => ⟨S8x2048x6x4x64, .f32⟩
  | .hbm, ⟨10, _⟩ => ⟨S8x2048x1x4x64, .f32⟩
  | .hbm, ⟨11, _⟩ => ⟨S8x2048x4x64, .f32⟩
  | .hbm, ⟨12, _⟩ => ⟨S32x64, .f32⟩
  | .hbm, ⟨13, _⟩ => ⟨S2048x64, .f32⟩
  | .hbm, ⟨14, _⟩ => ⟨S64x64, .f32⟩
  | .hbm, ⟨15, _⟩ => ⟨S8x128x16x4x64, .f32⟩
  | .hbm, ⟨16, _⟩ => ⟨S8x127x16x4x64, .f32⟩
  | .hbm, ⟨17, _⟩ => ⟨S8x1x16x4x64, .f32⟩
  | .hbm, ⟨18, _⟩ => ⟨S8x128x16x4x64, .f32⟩
  | .hbm, ⟨19, _⟩ => ⟨S8x128x32x4x64, .f32⟩
  | .hbm, ⟨20, _⟩ => ⟨S32x1x64, .f32⟩
  | .hbm, ⟨21, _⟩ => ⟨S1x1x32x1x64, .f32⟩
  | .hbm, ⟨22, _⟩ => ⟨S8x128x32x4x64, .f32⟩
  | .hbm, ⟨23, _⟩ => ⟨S8x128x32x4x64, .f32⟩
  | .hbm, ⟨24, _⟩ => ⟨S8x128x4x32x64, .f32⟩
  | .hbm, ⟨25, _⟩ => ⟨S8x128x4x2048, .f32⟩
  | .hbm, ⟨26, _⟩ => ⟨S8x128x4x64, .f32⟩
  | .hbm, ⟨27, _⟩ => ⟨S8x128x4x64, .f32⟩
  | .hbm, ⟨28, _⟩ => ⟨S8x128x4x64, .f32⟩
  | .hbm, ⟨29, _⟩ => ⟨S_, .f32⟩
  | .hbm, ⟨30, _⟩ => ⟨S8x128x4x64, .f32⟩
  | .hbm, ⟨31, _⟩ => ⟨S8x128x4x64, .f32⟩
  | .hbm, ⟨32, _⟩ => ⟨S8x128x4x64, .f32⟩
  | .hbm, ⟨33, _⟩ => ⟨S_, .f32⟩
  | .hbm, ⟨34, _⟩ => ⟨S8x128x4x64, .f32⟩
  | .hbm, ⟨35, _⟩ => ⟨S8x128x4x64, .f32⟩
  | .hbm, ⟨36, _⟩ => ⟨S8x128x4x64, .f32⟩
  | .hbm, ⟨37, _⟩ => ⟨S_, .f32⟩
  | .hbm, ⟨38, _⟩ => ⟨S8x128x4x64, .f32⟩
  | .hbm, ⟨39, _⟩ => ⟨S8x128x4x64, .f32⟩
  | .hbm, ⟨40, _⟩ => ⟨S_, .f32⟩
  | .hbm, ⟨41, _⟩ => ⟨S8x128x4x64, .f32⟩
  | .hbm, ⟨42, _⟩ => ⟨S8x128x4x64, .f32⟩
  | .hbm, ⟨43, _⟩ => ⟨S8x128x4x64, .f32⟩
  | .hbm, ⟨44, _⟩ => ⟨S8x128x4x64, .f32⟩
  | .hbm, ⟨45, _⟩ => ⟨S8x128x4x64, .f32⟩
  | .hbm, ⟨46, _⟩ => ⟨S_, .f32⟩
  | .hbm, ⟨47, _⟩ => ⟨S8x128x4, .f32⟩
  | .hbm, ⟨48, _⟩ => ⟨S8x128x4x1, .f32⟩
  | .hbm, ⟨49, _⟩ => ⟨S_, .f32⟩
  | .hbm, ⟨50, _⟩ => ⟨S8x128x4x1, .f32⟩
  | .hbm, ⟨51, _⟩ => ⟨S8x128x4x1, .f32⟩
  | .hbm, ⟨52, _⟩ => ⟨S_, .f32⟩
  | .hbm, ⟨53, _⟩ => ⟨S8x128x4x1, .f32⟩
  | .hbm, ⟨54, _⟩ => ⟨S8x128x4x1, .f32⟩
  | .hbm, ⟨55, _⟩ => ⟨S8x128x4x1, .f32⟩
  | .hbm, ⟨56, _⟩ => ⟨S8x128x4x64, .f32⟩
  | .hbm, ⟨57, _⟩ => ⟨S8x128x4x64, .f32⟩
  | .hbm, ⟨58, _⟩ => ⟨S1x1x64, .f32⟩
  | .hbm, ⟨59, _⟩ => ⟨S64, .f32⟩
  | .hbm, ⟨60, _⟩ => ⟨S1x1x1x64, .f32⟩
  | .hbm, ⟨61, _⟩ => ⟨S8x128x4x64, .f32⟩
  | .hbm, ⟨62, _⟩ => ⟨S8x128x4x64, .f32⟩
  | .hbm, ⟨63, _⟩ => ⟨S8x2048x1x4x64, .f32⟩
  | .hbm, ⟨64, _⟩ => ⟨S8x2048x4x64, .f32⟩
  | .hbm, ⟨65, _⟩ => ⟨S32x64, .f32⟩
  | .hbm, ⟨66, _⟩ => ⟨S2048x64, .f32⟩
  | .hbm, ⟨67, _⟩ => ⟨S64x64, .f32⟩
  | .hbm, ⟨68, _⟩ => ⟨S8x128x16x4x64, .f32⟩
  | .hbm, ⟨69, _⟩ => ⟨S8x127x16x4x64, .f32⟩
  | .hbm, ⟨70, _⟩ => ⟨S8x1x16x4x64, .f32⟩
  | .hbm, ⟨71, _⟩ => ⟨S8x128x16x4x64, .f32⟩
  | .hbm, ⟨72, _⟩ => ⟨S8x128x32x4x64, .f32⟩
  | .hbm, ⟨73, _⟩ => ⟨S32x1x64, .f32⟩
  | .hbm, ⟨74, _⟩ => ⟨S1x1x32x1x64, .f32⟩
  | .hbm, ⟨75, _⟩ => ⟨S8x128x32x4x64, .f32⟩
  | .hbm, ⟨76, _⟩ => ⟨S8x128x32x4x64, .f32⟩
  | .hbm, ⟨77, _⟩ => ⟨S8x128x4x32x64, .f32⟩
  | .hbm, ⟨78, _⟩ => ⟨S8x128x4x2048, .f32⟩
  | .hbm, ⟨79, _⟩ => ⟨S8x128x4x64, .f32⟩
  | .hbm, ⟨80, _⟩ => ⟨S8x128x4x64, .f32⟩
  | .hbm, ⟨81, _⟩ => ⟨S8x128x4x64, .f32⟩
  | .hbm, ⟨82, _⟩ => ⟨S_, .f32⟩
  | .hbm, ⟨83, _⟩ => ⟨S8x128x4x64, .f32⟩
  | .hbm, ⟨84, _⟩ => ⟨S8x128x4x64, .f32⟩
  | .hbm, ⟨85, _⟩ => ⟨S8x128x4x64, .f32⟩
  | .hbm, ⟨86, _⟩ => ⟨S_, .f32⟩
  | .hbm, ⟨87, _⟩ => ⟨S8x128x4x64, .f32⟩
  | .hbm, ⟨88, _⟩ => ⟨S8x128x4x64, .f32⟩
  | .hbm, ⟨89, _⟩ => ⟨S8x128x4x64, .f32⟩
  | .hbm, ⟨90, _⟩ => ⟨S_, .f32⟩
  | .hbm, ⟨91, _⟩ => ⟨S8x128x4x64, .f32⟩
  | .hbm, ⟨92, _⟩ => ⟨S8x128x4x64, .f32⟩
  | .hbm, ⟨93, _⟩ => ⟨S_, .f32⟩
  | .hbm, ⟨94, _⟩ => ⟨S8x128x4x64, .f32⟩
  | .hbm, ⟨95, _⟩ => ⟨S8x128x4x64, .f32⟩
  | .hbm, ⟨96, _⟩ => ⟨S8x128x4x64, .f32⟩
  | .hbm, ⟨97, _⟩ => ⟨S8x128x4x64, .f32⟩
  | .hbm, ⟨98, _⟩ => ⟨S_, .f32⟩
  | .hbm, ⟨99, _⟩ => ⟨S8x4x128x64, .f32⟩
  | .hbm, ⟨100, _⟩ => ⟨S8x4x128x64, .f32⟩
  | .hbm, ⟨101, _⟩ => ⟨S8x4x128x128, .f32⟩
  | .hbm, ⟨102, _⟩ => ⟨S8x4x128x64, .f32⟩
  | .hbm, ⟨103, _⟩ => ⟨S8x4x128x128, .f32⟩
  | .hbm, ⟨104, _⟩ => ⟨S8x4x128x128, .bf16⟩
  | .hbm, ⟨105, _⟩ => ⟨S8x4x128x128, .bf16⟩
  | _, _ => ⟨S8x2048x10064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_1 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_6 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_v74 : Ref sig .tc := ⟨.hbm, 92, rfl⟩
abbrev main_cst_9 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_10 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== Rwkv.lean ====
abbrev S8x2048x3360 : Shape := ⟨3, ![8, 2048, 3360]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S16384x3360 : Shape := ⟨2, ![16384, 3360]⟩
abbrev S16384x3072 : Shape := ⟨2, ![16384, 3072]⟩
abbrev S_ : Shape := ⟨0, ![]⟩
abbrev S16384x10240 : Shape := ⟨2, ![16384, 10240]⟩
abbrev S16384x288 : Shape := ⟨2, ![16384, 288]⟩
abbrev S16384x512 : Shape := ⟨2, ![16384, 512]⟩
abbrev S288 : Shape := ⟨1, ![288]⟩
abbrev S224 : Shape := ⟨1, ![224]⟩
abbrev S512 : Shape := ⟨1, ![512]⟩
abbrev S1x512 : Shape := ⟨2, ![1, 512]⟩
abbrev S128x1024 : Shape := ⟨2, ![128, 1024]⟩
abbrev S3072 : Shape := ⟨1, ![3072]⟩
abbrev S3x1024 : Shape := ⟨2, ![3, 1024]⟩
abbrev S1x1024 : Shape := ⟨2, ![1, 1024]⟩
abbrev S10x1024 : Shape := ⟨2, ![10, 1024]⟩
abbrev S96x1024 : Shape := ⟨2, ![96, 1024]⟩
abbrev S256x1024 : Shape := ⟨2, ![256, 1024]⟩
abbrev S16384x1024 : Shape := ⟨2, ![16384, 1024]⟩
abbrev S256x512 : Shape := ⟨2, ![256, 512]⟩
abbrev S8x1024 : Shape := ⟨2, ![8, 1024]⟩
abbrev S8x512 : Shape := ⟨2, ![8, 512]⟩
abbrev S4x256x256 : Shape := ⟨3, ![4, 256, 256]⟩
abbrev S248x1024 : Shape := ⟨2, ![248, 1024]⟩
abbrev S248x512 : Shape := ⟨2, ![248, 512]⟩
abbrev S256x128 : Shape := ⟨2, ![256, 128]⟩
abbrev S256x256 : Shape := ⟨2, ![256, 256]⟩
abbrev S64x256 : Shape := ⟨2, ![64, 256]⟩
abbrev S512x256 : Shape := ⟨2, ![512, 256]⟩
abbrev S128x256 : Shape := ⟨2, ![128, 256]⟩
abbrev S128x512 : Shape := ⟨2, ![128, 512]⟩
abbrev S1x256x256 : Shape := ⟨3, ![1, 256, 256]⟩
abbrev S1x256 : Shape := ⟨2, ![1, 256]⟩

abbrev nBuf : Space → Nat
  | .hbm => 51
  | .vmem => 21
  | .smem => 0
  | _ => 0

abbrev bufTy : (tb : Table) → Fin (tcTables nBuf tb) → BufTy
  | .hbm, ⟨0, _⟩ => ⟨S8x2048x3360, .f32⟩
  | .hbm, ⟨1, _⟩ => ⟨S3360, .f32⟩
  | .hbm, ⟨2, _⟩ => ⟨S1024, .f32⟩
  | .hbm, ⟨3, _⟩ => ⟨S64x1024, .f32⟩
  | .hbm, ⟨4, _⟩ => ⟨S1024, .f32⟩
  | .hbm, ⟨5, _⟩ => ⟨S64x1024, .f32⟩
  | .hbm, ⟨6, _⟩ => ⟨S160x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S1024, .f32⟩
  | .hbm, ⟨11, _⟩ => ⟨S1024, .f32⟩
  | .hbm, ⟨12, _⟩ => ⟨S16384x3360, .f32⟩
  | .hbm, ⟨13, _⟩ => ⟨S16384x3072, .f32⟩
  | .hbm, ⟨14, _⟩ => ⟨S_, .i32⟩
  | .hbm, ⟨15, _⟩ => ⟨S_, .f32⟩
  | .hbm, ⟨16, _⟩ => ⟨S16384x10240, .f32⟩
  | .hbm, ⟨17, _⟩ => ⟨S16384x10240, .bf16⟩
  | .hbm, ⟨18, _⟩ => ⟨S16384x288, .f32⟩
  | .hbm, ⟨19, _⟩ => ⟨S_, .i32⟩
  | .hbm, ⟨20, _⟩ => ⟨S_, .f32⟩
  | .hbm, ⟨21, _⟩ => ⟨S16384x512, .f32⟩
  | .hbm, ⟨22, _⟩ => ⟨S288, .f32⟩
  | .hbm, ⟨23, _⟩ => ⟨S_, .f32⟩
  | .hbm, ⟨24, _⟩ => ⟨S224, .f32⟩
  | .hbm, ⟨25, _⟩ => ⟨S512, .f32⟩
  | .hbm, ⟨26, _⟩ => ⟨S1x512, .f32⟩
  | .hbm, ⟨27, _⟩ => ⟨S_, .f32⟩
  | .hbm, ⟨28, _⟩ => ⟨S64x1024, .f32⟩
  | .hbm, ⟨29, _⟩ => ⟨S128x1024, .f32⟩
  | .hbm, ⟨30, _⟩ => ⟨S128x1024, .bf16⟩
  | .hbm, ⟨31, _⟩ => ⟨S3072, .f32⟩
  | .hbm, ⟨32, _⟩ => ⟨S3x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S10x1024, .f32⟩
  | .hbm, ⟨41, _⟩ => ⟨S128x1024, .f32⟩
  | .hbm, ⟨42, _⟩ => ⟨S128x1024, .f32⟩
  | .hbm, ⟨43, _⟩ => ⟨S128x1024, .bf16⟩
  | .hbm, ⟨44, _⟩ => ⟨S128x1024, .f32⟩
  | .hbm, ⟨45, _⟩ => ⟨S128x1024, .bf16⟩
  | .hbm, ⟨46, _⟩ => ⟨S_, .f32⟩
  | .hbm, ⟨47, _⟩ => ⟨S96x1024, .f32⟩
  | .hbm, ⟨48, _⟩ => ⟨S256x1024, .f32⟩
  | .hbm, ⟨49, _⟩ => ⟨S256x1024, .bf16⟩
  | .hbm, ⟨50, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x512, .f32⟩
  | .local _ .vmem, ⟨7, _⟩ => ⟨S256x512, .f32⟩
  | .local _ .vmem, ⟨8, _⟩ => ⟨S10x1024, .f32⟩
  | .local _ .vmem, ⟨9, _⟩ => ⟨S1x512, .f32⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | .local _ .vmem, ⟨17, _⟩ => ⟨S8x1024, .f32⟩
  | .local _ .vmem, ⟨18, _⟩ => ⟨S8x1024, .f32⟩
  | .local _ .vmem, ⟨19, _⟩ => ⟨S8x512, .f32⟩
  | .local _ .vmem, ⟨20, _⟩ => ⟨S4x256x256, .f32⟩
  | _, _ => ⟨S8x2048x3360, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_0 : Ref sig .tc := ⟨.hbm, 19, rfl⟩
abbrev main_call1_v0 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_2 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S10x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== RwkvRefIdeal.lean ====
abbrev S8x2048x3360 : Shape := ⟨3, ![8, 2048, 3360]⟩
abbrev S3360 : Shape := ⟨1, ![3360]⟩
abbrev S1024 : Shape := ⟨1, ![1024]⟩
abbrev S64x1024 : Shape := ⟨2, ![64, 1024]⟩
abbrev S160x1024 : Shape := ⟨2, ![160, 1024]⟩
abbrev S16x64 : Shape := ⟨2, ![16, 64]⟩
abbrev S_ : Shape := ⟨0, ![]⟩
abbrev S8x2049x3360 : Shape := ⟨3, ![8, 2049, 3360]⟩
abbrev S1x1x3360 : Shape := ⟨3, ![1, 1, 3360]⟩
abbrev S8x2048x1024 : Shape := ⟨3, ![8, 2048, 1024]⟩
abbrev S8x2048x64 : Shape := ⟨3, ![8, 2048, 64]⟩
abbrev S8x2048x160 : Shape := ⟨3, ![8, 2048, 160]⟩
abbrev S1x1x1024 : Shape := ⟨3, ![1, 1, 1024]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S2048x8x16x64 : Shape := ⟨4, ![2048, 8, 16, 64]⟩
abbrev S8x16x64x64 : Shape := ⟨4, ![8, 16, 64, 64]⟩
abbrev S1x8x16x64 : Shape := ⟨4, ![1, 8, 16, 64]⟩
abbrev S8x16x64 : Shape := ⟨3, ![8, 16, 64]⟩
abbrev S8x16x1x64 : Shape := ⟨4, ![8, 16, 1, 64]⟩
abbrev S8x16x64x1 : Shape := ⟨4, ![8, 16, 64, 1]⟩
abbrev S1x1x16x64 : Shape := ⟨4, ![1, 1, 16, 64]⟩
abbrev S16384x1024 : Shape := ⟨2, ![16384, 1024]⟩

abbrev nBuf : Space → Nat
  | .hbm => 227
  | .vmem => 0
  | .smem => 0
  | _ => 0

abbrev hbmTy0_0 (i : Nat) : BufTy := match i % 128 with
  | 0 => ⟨S8x2048x3360, .f32⟩
  | 1 => ⟨S3360, .f32⟩
  | 2 => ⟨S1024, .f32⟩
  | 3 => ⟨S64x1024, .f32⟩
  | 4 => ⟨S1024, .f32⟩
  | 5 => ⟨S64x1024, .f32⟩
  | 6 => ⟨S160x1024, .f32⟩
  | 7 => ⟨S1024, .f32⟩
  | 8 => ⟨S1024, .f32⟩
  | 9 => ⟨S16x64, .f32⟩
  | 10 => ⟨S1024, .f32⟩
  | 11 => ⟨S1024, .f32⟩
  | 12 => ⟨S_, .i32⟩
  | 13 => ⟨S_, .f32⟩
  | 14 => ⟨S8x2049x3360, .f32⟩
  | 15 => ⟨S8x2048x3360, .f32⟩
  | 16 => ⟨S8x2048x3360, .f32⟩
  | 17 => ⟨S1x1x3360, .f32⟩
  | 18 => ⟨S8x2048x3360, .f32⟩
  | 19 => ⟨S8x2048x3360, .f32⟩
  | 20 => ⟨S8x2048x3360, .f32⟩
  | 21 => ⟨S8x2048x1024, .f32⟩
  | 22 => ⟨S8x2048x1024, .f32⟩
  | 23 => ⟨S8x2048x1024, .f32⟩
  | 24 => ⟨S8x2048x64, .f32⟩
  | 25 => ⟨S8x2048x64, .f32⟩
  | 26 => ⟨S8x2048x160, .f32⟩
  | 27 => ⟨S8x2048x64, .f32⟩
  | 28 => ⟨S8x2048x1024, .f32⟩
  | 29 => ⟨S1x1x1024, .f32⟩
  | 30 => ⟨S8x2048x1024, .f32⟩
  | 31 => ⟨S8x2048x1024, .f32⟩
  | 32 => ⟨S8x2048x1024, .f32⟩
  | 33 => ⟨S_, .f32⟩
  | 34 => ⟨S8x2048x1024, .f32⟩
  | 35 => ⟨S8x2048x1024, .f32⟩
  | 36 => ⟨S8x2048x1024, .f32⟩
  | 37 => ⟨S8x2048x1024, .f32⟩
  | 38 => ⟨S8x2048x1024, .i1⟩
  | 39 => ⟨S8x2048x1024, .f32⟩
  | 40 => ⟨S8x2048x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S8x2048x1024, .f32⟩
  | 46 => ⟨S8x2048x1024, .f32⟩
  | 47 => ⟨S8x2048x1024, .f32⟩
  | 48 => ⟨S_, .f32⟩
  | 49 => ⟨S8x2048x1024, .f32⟩
  | 50 => ⟨S8x2048x1024, .f32⟩
  | 51 => ⟨S8x2048x1024, .f32⟩
  | 52 => ⟨S1x1x1024, .f32⟩
  | 53 => ⟨S8x2048x1024, .f32⟩
  | 54 => ⟨S8x2048x1024, .f32⟩
  | 55 => ⟨S8x2048x1024, .f32⟩
  | 56 => ⟨S8x2048x1024, .f32⟩
  | 57 => ⟨S_, .f32⟩
  | 58 => ⟨S8x2048x1024, .f32⟩
  | 59 => ⟨S8x2048x1024, .f32⟩
  | 60 => ⟨S_, .f32⟩
  | 61 => ⟨S8x2048x1024, .f32⟩
  | 62 => ⟨S8x2048x1024, .f32⟩
  | 63 => ⟨S8x2048x160, .f32⟩
  | 64 => ⟨S8x2048x160, .f32⟩
  | 65 => ⟨S_, .f32⟩
  | 66 => ⟨S8x2048x160, .f32⟩
  | 67 => ⟨S8x2048x160, .f32⟩
  | 68 => ⟨S_, .f32⟩
  | 69 => ⟨S8x2048x160, .f32⟩
  | 70 => ⟨S8x2048x160, .f32⟩
  | 71 => ⟨S8x2048x1024, .f32⟩
  | 72 => ⟨S1x1x1024, .f32⟩
  | 73 => ⟨S8x2048x1024, .f32⟩
  | 74 => ⟨S8x2048x1024, .f32⟩
  | 75 => ⟨S8x2048x16x64, .f32⟩
  | 76 => ⟨S8x2048x16x64, .f32⟩
  | 77 => ⟨S_, .f32⟩
  | 78 => ⟨S8x2048x16, .f32⟩
  | 79 => ⟨S8x2048x16x1, .f32⟩
  | 80 => ⟨S8x2048x16x1, .f32⟩
  | 81 => ⟨S_, .f32⟩
  | 82 => ⟨S8x2048x16x1, .f32⟩
  | 83 => ⟨S8x2048x16x1, .f32⟩
  | 84 => ⟨S8x2048x16x64, .f32⟩
  | 85 => ⟨S8x2048x16x64, .f32⟩
  | 86 => ⟨S_, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S_, .f32⟩
  | 93 => ⟨S8x2048x1024, .f32⟩
  | 94 => ⟨S8x2048x1024, .f32⟩
  | 95 => ⟨S8x2048x1024, .f32⟩
  | 96 => ⟨S8x2048x16x64, .f32⟩
  | 97 => ⟨S8x2048x16x64, .f32⟩
  | 98 => ⟨S8x2048x16x64, .f32⟩
  | 99 => ⟨S8x2048x16x64, .f32⟩
  | 100 => ⟨S8x2048x16x64, .f32⟩
  | 101 => ⟨S8x2048x16x64, .f32⟩
  | 102 => ⟨S8x2048x16x64, .f32⟩
  | 103 => ⟨S8x2048x16x64, .f32⟩
  | 104 => ⟨S8x2048x16x64, .f32⟩
  | 105 => ⟨S8x2048x16x64, .f32⟩
  | 106 => ⟨S2048x8x16x64, .f32⟩
  | 107 => ⟨S2048x8x16x64, .f32⟩
  | 108 => ⟨S2048x8x16x64, .f32⟩
  | 109 => ⟨S2048x8x16x64, .f32⟩
  | 110 => ⟨S2048x8x16x64, .f32⟩
  | 111 => ⟨S2048x8x16x64, .f32⟩
  | 112 => ⟨S_, .f32⟩
  | 113 => ⟨S8x16x64x64, .f32⟩
  | 114 => ⟨S_, .f32⟩
  | 115 => ⟨S2048x8x16x64, .f32⟩
  | 116 => ⟨S_, .i32⟩
  | 117 => ⟨S2048x8x16x64, .f32⟩
  | 118 => ⟨S2048x8x16x64, .f32⟩
  | 119 => ⟨S2048x8x16x64, .f32⟩
  | 120 => ⟨S2048x8x16x64, .f32⟩
  | 121 => ⟨S2048x8x16x64, .f32⟩
  | 122 => ⟨S2048x8x16x64, .f32⟩
  | 123 => ⟨S_, .i32⟩
  | 124 => ⟨S8x16x64x64, .f32⟩
  | 125 => ⟨S2048x8x16x64, .f32⟩
  | 126 => ⟨S_, .i32⟩
  | 127 => ⟨S_, .i1⟩
  | _ => ⟨S8x2048x3360, .f32⟩

abbrev hbmTy0_1 (i : Nat) : BufTy := match i % 128 with
  | 0 => ⟨S_, .i32⟩
  | 1 => ⟨S_, .i32⟩
  | 2 => ⟨S_, .i32⟩
  | 3 => ⟨S1x8x16x64, .f32⟩
  | 4 => ⟨S8x16x64, .f32⟩
  | 5 => ⟨S_, .i32⟩
  | 6 => ⟨S_, .i32⟩
  | 7 => ⟨S_, .i32⟩
  | 8 => ⟨S1x8x16x64, .f32⟩
  | 9 => ⟨S8x16x64, .f32⟩
  | 10 => ⟨S_, .i32⟩
  | 11 => ⟨S_, .i32⟩
  | 12 => ⟨S_, .i32⟩
  | 13 => ⟨S1x8x16x64, .f32⟩
  | 14 => ⟨S8x16x64, .f32⟩
  | 15 => ⟨S_, .i32⟩
  | 16 => ⟨S_, .i32⟩
  | 17 => ⟨S_, .i32⟩
  | 18 => ⟨S1x8x16x64, .f32⟩
  | 19 => ⟨S8x16x64, .f32⟩
  | 20 => ⟨S_, .i32⟩
  | 21 => ⟨S_, .i32⟩
  | 22 => ⟨S_, .i32⟩
  | 23 => ⟨S1x8x16x64, .f32⟩
  | 24 => ⟨S8x16x64, .f32⟩
  | 25 => ⟨S_, .i32⟩
  | 26 => ⟨S_, .i32⟩
  | 27 => ⟨S_, .i32⟩
  | 28 => ⟨S1x8x16x64, .f32⟩
  | 29 => ⟨S8x16x64, .f32⟩
  | 30 => ⟨S8x16x64, .f32⟩
  | 31 => ⟨S8x16x1x64, .f32⟩
  | 32 => ⟨S8x16x64x64, .f32⟩
  | 33 => ⟨S8x16x64x64, .f32⟩
  | 34 => ⟨S8x16x64x1, .f32⟩
  | 35 => ⟨S8x16x1x64, .f32⟩
  | 36 => ⟨S8x16x64x64, .f32⟩
  | 37 => ⟨S8x16x64x64, .f32⟩
  | 38 => ⟨S8x16x64x64, .f32⟩
  | 39 => ⟨S8x16x64x64, .f32⟩
  | 40 => ⟨S8x16x64x1, .f32⟩
  | 41 => ⟨S8x16x1x64, .f32⟩
  | 42 => ⟨S8x16x64x64, .f32⟩
  | 43 => ⟨S8x16x64x64, .f32⟩
  | 44 => ⟨S8x16x64x64, .f32⟩
  | 45 => ⟨S8x16x64x64, .f32⟩
  | 46 => ⟨S8x16x64, .f32⟩
  | 47 => ⟨S1x8x16x64, .f32⟩
  | 48 => ⟨S_, .i32⟩
  | 49 => ⟨S_, .i32⟩
  | 50 => ⟨S_, .i32⟩
  | 51 => ⟨S2048x8x16x64, .f32⟩
  | 52 => ⟨S_, .i32⟩
  | 53 => ⟨S_, .i32⟩
  | 54 => ⟨S8x2048x16x64, .f32⟩
  | 55 => ⟨S_, .f32⟩
  | 56 => ⟨S8x2048x16, .f32⟩
  | 57 => ⟨S8x2048x16x1, .f32⟩
  | 58 => ⟨S_, .f32⟩
  | 59 => ⟨S8x2048x16x1, .f32⟩
  | 60 => ⟨S8x2048x16x1, .f32⟩
  | 61 => ⟨S8x2048x16x64, .f32⟩
  | 62 => ⟨S8x2048x16x64, .f32⟩
  | 63 => ⟨S8x2048x16x64, .f32⟩
  | 64 => ⟨S_, .f32⟩
  | 65 => ⟨S8x2048x16, .f32⟩
  | 66 => ⟨S8x2048x16x1, .f32⟩
  | 67 => ⟨S_, .f32⟩
  | 68 => ⟨S8x2048x16x1, .f32⟩
  | 69 => ⟨S8x2048x16x1, .f32⟩
  | 70 => ⟨S8x2048x16x64, .f32⟩
  | 71 => ⟨S8x2048x16x64, .f32⟩
  | 72 => ⟨S_, .f32⟩
  | 73 => ⟨S8x2048x16x1, .f32⟩
  | 74 => ⟨S8x2048x16x1, .f32⟩
  | 75 => ⟨S8x2048x16x1, .f32⟩
  | 76 => ⟨S8x2048x16x64, .f32⟩
  | 77 => ⟨S8x2048x16x64, .f32⟩
  | 78 => ⟨S8x2048x1024, .f32⟩
  | 79 => ⟨S1x1x1024, .f32⟩
  | 80 => ⟨S8x2048x1024, .f32⟩
  | 81 => ⟨S8x2048x1024, .f32⟩
  | 82 => ⟨S1x1x1024, .f32⟩
  | 83 => ⟨S8x2048x1024, .f32⟩
  | 84 => ⟨S8x2048x1024, .f32⟩
  | 85 => ⟨S8x2048x16x64, .f32⟩
  | 86 => ⟨S1x1x16x64, .f32⟩
  | 87 => ⟨S8x2048x16x64, .f32⟩
  | 88 => ⟨S8x2048x16x64, .f32⟩
  | 89 => ⟨S_, .f32⟩
  | 90 => ⟨S8x2048x16, .f32⟩
  | 91 => ⟨S8x2048x16x1, .f32⟩
  | 92 => ⟨S8x2048x16x64, .f32⟩
  | 93 => ⟨S8x2048x16x64, .f32⟩
  | 94 => ⟨S8x2048x1024, .f32⟩
  | 95 => ⟨S8x2048x1024, .f32⟩
  | 96 => ⟨S8x2048x1024, .f32⟩
  | 97 => ⟨S16384x1024, .f32⟩
  | 98 => ⟨S16384x1024, .bf16⟩
  | _ => ⟨S8x2048x3360, .f32⟩

abbrev hbmTy (i : Nat) : BufTy := match i / 128 with
  | 0 => hbmTy0_0 i
  | 1 => hbmTy0_1 i
  | _ => ⟨S8x2048x3360, .f32⟩

abbrev bufTy : (tb : Table) → Fin (tcTables nBuf tb) → BufTy
  | .hbm, ⟨i, _⟩ => hbmTy i
  | _, _ => ⟨S8x2048x3360, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_call0_v0 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call1_cst : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_v19 : Ref sig .tc := ⟨.hbm, 46, rfl⟩
abbrev main_v20 : Ref sig .tc := ⟨.hbm, 47, rfl⟩
abbrev main_cst : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_0 : Ref sig .tc := ⟨.hbm, 57, rfl⟩
abbrev main_v29 : Ref sig .tc := ⟨.hbm, 58, rfl⟩
abbrev main_v30 : Ref sig .tc := ⟨.hbm, 59, rfl⟩
abbrev main_cst_1 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_cst_3 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_4 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_5 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_6 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_7 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_8 : Ref sig .tc := ⟨.hbm, 112, rfl⟩
abbrev main_v76 : Ref sig .tc := ⟨.hbm, 113, rfl⟩
abbrev main_cst_9 : Ref sig .tc := ⟨.hbm, 114, rfl⟩
abbrev main_v77 : Ref sig .tc := ⟨.hbm, 115, rfl⟩
abbrev main_c_10 : Ref sig .tc := ⟨.hbm, 116, rfl⟩
abbrev main_v78_0 : Ref sig .tc := ⟨.hbm, 117, rfl⟩
abbrev main_v78_1 : Ref sig .tc := ⟨.hbm, 118, rfl⟩
abbrev main_v78_2 : Ref sig .tc := ⟨.hbm, 119, rfl⟩
abbrev main_v78_3 : Ref sig .tc := ⟨.hbm, 120, rfl⟩
abbrev main_v78_4 : Ref sig .tc := ⟨.hbm, 121, rfl⟩
abbrev main_v78_5 : Ref sig .tc := ⟨.hbm, 122, rfl⟩
abbrev main_v78_6 : Ref sig .tc := ⟨.hbm, 123, rfl⟩
abbrev main_v78_7 : Ref sig .tc := ⟨.hbm, 124, rfl⟩
abbrev main_v78_8 : Ref sig .tc := ⟨.hbm, 125, rfl⟩
abbrev main_while0c_c_25 : Ref sig .tc := ⟨.hbm, 126, rfl⟩
abbrev main_while0c_v118 : Ref sig .tc := ⟨.hbm, 127, rfl⟩
abbrev main_while0b_call2_c : Ref sig .tc := ⟨.hbm, 128, rfl⟩
abbrev main_while0b_call2_c_0 : Ref sig .tc := ⟨.hbm, 129, rfl⟩
abbrev main_while0b_call2_c_1 : Ref sig .tc := ⟨.hbm, 130, rfl⟩
abbrev main_while0b_call2_v0 : Ref sig .tc := ⟨.hbm, 131, rfl⟩
abbrev main_while0b_v118 : Ref sig .tc := ⟨.hbm, 132, rfl⟩
abbrev main_while0b_call3_c : Ref sig .tc := ⟨.hbm, 133, rfl⟩
abbrev main_while0b_call3_c_0 : Ref sig .tc := ⟨.hbm, 134, rfl⟩
abbrev main_while0b_call3_c_1 : Ref sig .tc := ⟨.hbm, 135, rfl⟩
abbrev main_while0b_call3_v0 : Ref sig .tc := ⟨.hbm, 136, rfl⟩
abbrev main_while0b_v119 : Ref sig .tc := ⟨.hbm, 137, rfl⟩
abbrev main_while0b_call4_c : Ref sig .tc := ⟨.hbm, 138, rfl⟩
abbrev main_while0b_call4_c_0 : Ref sig .tc := ⟨.hbm, 139, rfl⟩
abbrev main_while0b_call4_c_1 : Ref sig .tc := ⟨.hbm, 140, rfl⟩
abbrev main_while0b_call4_v0 : Ref sig .tc := ⟨.hbm, 141, rfl⟩
abbrev main_while0b_v120 : Ref sig .tc := ⟨.hbm, 142, rfl⟩
abbrev main_while0b_call5_c : Ref sig .tc := ⟨.hbm, 143, rfl⟩
abbrev main_while0b_call5_c_0 : Ref sig .tc := ⟨.hbm, 144, rfl⟩
abbrev main_while0b_call5_c_1 : Ref sig .tc := ⟨.hbm, 145, rfl⟩
abbrev main_while0b_call5_v0 : Ref sig .tc := ⟨.hbm, 146, rfl⟩
abbrev main_while0b_v121 : Ref sig .tc := ⟨.hbm, 147, rfl⟩
abbrev main_while0b_call6_c : Ref sig .tc := ⟨.hbm, 148, rfl⟩
abbrev main_while0b_call6_c_0 : Ref sig .tc := ⟨.hbm, 149, rfl⟩
abbrev main_while0b_call6_c_1 : Ref sig .tc := ⟨.hbm, 150, rfl⟩
abbrev main_while0b_call6_v0 : Ref sig .tc := ⟨.hbm, 151, rfl⟩
abbrev main_while0b_v122 : Ref sig .tc := ⟨.hbm, 152, rfl⟩
abbrev main_while0b_call7_c : Ref sig .tc := ⟨.hbm, 153, rfl⟩
abbrev main_while0b_call7_c_0 : Ref sig .tc := ⟨.hbm, 154, rfl⟩
abbrev main_while0b_call7_c_1 : Ref sig .tc := ⟨.hbm, 155, rfl⟩
abbrev main_while0b_call7_v0 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_v127 : Ref sig .tc := ⟨.hbm, 161, rfl⟩
abbrev main_while0b_v128 : Ref sig .tc := ⟨.hbm, 162, rfl⟩
abbrev main_while0b_v129 : Ref sig .tc := ⟨.hbm, 163, rfl⟩
abbrev main_while0b_v130 : Ref sig .tc := ⟨.hbm, 164, rfl⟩
abbrev main_while0b_v131 : Ref sig .tc := ⟨.hbm, 165, rfl⟩
abbrev main_while0b_v132 : Ref sig .tc := ⟨.hbm, 166, rfl⟩
abbrev main_while0b_v133 : Ref sig .tc := ⟨.hbm, 167, rfl⟩
abbrev main_while0b_v134 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_call8_v0 : Ref sig .tc := ⟨.hbm, 175, rfl⟩
abbrev main_while0b_call8_c : Ref sig .tc := ⟨.hbm, 176, rfl⟩
abbrev main_while0b_call8_c_0 : Ref sig .tc := ⟨.hbm, 177, rfl⟩
abbrev main_while0b_call8_c_1 : Ref sig .tc := ⟨.hbm, 178, rfl⟩
abbrev main_while0b_v141 : Ref sig .tc := ⟨.hbm, 179, rfl⟩
abbrev main_while0b_c_25 : Ref sig .tc := ⟨.hbm, 180, rfl⟩
abbrev main_while0b_v142 : Ref sig .tc := ⟨.hbm, 181, rfl⟩
abbrev main_v79 : Ref sig .tc := ⟨.hbm, 182, rfl⟩
abbrev main_cst_11 : Ref sig .tc := ⟨.hbm, 183, rfl⟩
abbrev main_v80 : Ref sig .tc := ⟨.hbm, 184, rfl⟩
abbrev main_v81 : Ref sig .tc := ⟨.hbm, 185, rfl⟩
abbrev main_cst_12 : Ref sig .tc := ⟨.hbm, 186, rfl⟩
abbrev main_v82 : Ref sig .tc := ⟨.hbm, 187, rfl⟩
abbrev main_v83 : Ref sig .tc := ⟨.hbm, 188, rfl⟩
abbrev main_v84 : Ref sig .tc := ⟨.hbm, 189, rfl⟩
abbrev main_v85 : Ref sig .tc := ⟨.hbm, 190, rfl⟩
abbrev main_v86 : Ref sig .tc := ⟨.hbm, 191, rfl⟩
abbrev main_cst_13 : Ref sig .tc := ⟨.hbm, 192, rfl⟩
abbrev main_v87 : Ref sig .tc := ⟨.hbm, 193, rfl⟩
abbrev main_v88 : Ref sig .tc := ⟨.hbm, 194, rfl⟩
abbrev main_cst_14 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_cst_15 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_v106 : Ref sig .tc := ⟨.hbm, 214, rfl⟩
abbrev main_v107 : Ref sig .tc := ⟨.hbm, 215, rfl⟩
abbrev main_v108 : Ref sig .tc := ⟨.hbm, 216, rfl⟩
abbrev main_cst_16 : Ref sig .tc := ⟨.hbm, 217, rfl⟩
abbrev main_v109 : Ref sig .tc := ⟨.hbm, 218, rfl⟩
abbrev main_v110 : Ref sig .tc := ⟨.hbm, 219, rfl⟩
abbrev main_v111 : Ref sig .tc := ⟨.hbm, 220, rfl⟩
abbrev main_v112 : Ref sig .tc := ⟨.hbm, 221, rfl⟩
abbrev main_v113 : Ref sig .tc := ⟨.hbm, 222, rfl⟩
abbrev main_v114 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩

abbrev nD : Nat := 1
abbrev τ : Topo := Topo.v7x

variable {F : FTy → Type} [FloatOps F]

abbrev main_while0_count : Scf.Loop 32 := ⟨0#32, 2048#32, 1#32⟩
-- ==== Prep.lean ====
abbrev S8x2048x10064 : Shape := ⟨3, ![8, 2048, 10064]⟩
abbrev S1x64 : Shape := ⟨2, ![1, 64]⟩
abbrev S1x3x64 : Shape := ⟨3, ![1, 3, 64]⟩
abbrev S64 : Shape := ⟨1, ![64]⟩
abbrev S3x64 : Shape := ⟨2, ![3, 64]⟩
abbrev S_ : Shape := ⟨0, ![]⟩
abbrev S256 : Shape := ⟨1, ![256]⟩
abbrev S256x1 : Shape := ⟨2, ![256, 1]⟩
abbrev S512 : Shape := ⟨1, ![512]⟩
abbrev S1x512 : Shape := ⟨2, ![1, 512]⟩
abbrev S256x512 : Shape := ⟨2, ![256, 512]⟩
abbrev S512x1 : Shape := ⟨2, ![512, 1]⟩
abbrev S512x512 : Shape := ⟨2, ![512, 512]⟩
abbrev S4x64 : Shape := ⟨2, ![4, 64]⟩
abbrev S1x256 : Shape := ⟨2, ![1, 256]⟩
abbrev S128 : Shape := ⟨1, ![128]⟩
abbrev S1x128 : Shape := ⟨2, ![1, 128]⟩
abbrev S8x2048x288 : Shape := ⟨3, ![8, 2048, 288]⟩
abbrev S8x2048x48 : Shape := ⟨3, ![8, 2048, 48]⟩
abbrev S8x2048x176 : Shape := ⟨3, ![8, 2048, 176]⟩
abbrev S8x2048x512 : Shape := ⟨3, ![8, 2048, 512]⟩
abbrev S1x16384x10064 : Shape := ⟨3, ![1, 16384, 10064]⟩
abbrev S16384x10064 : Shape := ⟨2, ![16384, 10064]⟩
abbrev S10064x16384 : Shape := ⟨2, ![10064, 16384]⟩
abbrev S1536x16384 : Shape := ⟨2, ![1536, 16384]⟩
abbrev S3x2x4x64x16384 : Shape := ⟨5, ![3, 2, 4, 64, 16384]⟩
abbrev S4x3x2x64x16384 : Shape := ⟨5, ![4, 3, 2, 64, 16384]⟩
abbrev S176x16384 : Shape := ⟨2, ![176, 16384]⟩
abbrev S3072x16384 : Shape := ⟨2, ![3072, 16384]⟩
abbrev S1024x16384 : Shape := ⟨2, ![1024, 16384]⟩
abbrev S4096x16384 : Shape := ⟨2, ![4096, 16384]⟩
abbrev S288x16384 : Shape := ⟨2, ![288, 16384]⟩
abbrev S48x16384 : Shape := ⟨2, ![48, 16384]⟩
abbrev S10240x16384 : Shape := ⟨2, ![10240, 16384]⟩
abbrev S16384x10240 : Shape := ⟨2, ![16384, 10240]⟩
abbrev S16384x512 : Shape := ⟨2, ![16384, 512]⟩
abbrev S8x16x2048x128 : Shape := ⟨4, ![8, 16, 2048, 128]⟩
abbrev S8x4x2560x128 : Shape := ⟨4, ![8, 4, 2560, 128]⟩
abbrev S8x4x2048x128 : Shape := ⟨4, ![8, 4, 2048, 128]⟩
abbrev S256x1024 : Shape := ⟨2, ![256, 1024]⟩
abbrev S1x16x256x128 : Shape := ⟨4, ![1, 16, 256, 128]⟩
abbrev S1x4x256x128 : Shape := ⟨4, ![1, 4, 256, 128]⟩
abbrev S256x128 : Shape := ⟨2, ![256, 128]⟩
abbrev S1x256x128 : Shape := ⟨3, ![1, 256, 128]⟩
abbrev S4x256x128 : Shape := ⟨3, ![4, 256, 128]⟩
abbrev S256x256 : Shape := ⟨2, ![256, 256]⟩
abbrev S128x128 : Shape := ⟨2, ![128, 128]⟩
abbrev S1x1x256x128 : Shape := ⟨4, ![1, 1, 256, 128]⟩

abbrev nBuf : Space → Nat
  | .hbm => 209
  | .vmem => 27
  | .smem => 0
  | _ => 0

abbrev hbmTy0_0 (i : Nat) : BufTy := match i % 128 with
  | 0 => ⟨S8x2048x10064, .f32⟩
  | 1 => ⟨S1x64, .f32⟩
  | 2 => ⟨S1x3x64, .f32⟩
  | 3 => ⟨S64, .f32⟩
  | 4 => ⟨S3x64, .f32⟩
  | 5 => ⟨S_, .f32⟩
  | 6 => ⟨S64, .f32⟩
  | 7 => ⟨S256, .i32⟩
  | 8 => ⟨S256x1, .i32⟩
  | 9 => ⟨S512, .i32⟩
  | 10 => ⟨S1x512, .i32⟩
  | 11 => ⟨S_, .i32⟩
  | 12 => ⟨S_, .i32⟩
  | 13 => ⟨S1x512, .i32⟩
  | 14 => ⟨S1x512, .i32⟩
  | 15 => ⟨S1x512, .i32⟩
  | 16 => ⟨S_, .i32⟩
  | 17 => ⟨S1x512, .i32⟩
  | 18 => ⟨S1x512, .i1⟩
  | 19 => ⟨S1x512, .i32⟩
  | 20 => ⟨S1x512, .i32⟩
  | 21 => ⟨S_, .i32⟩
  | 22 => ⟨S1x512, .i32⟩
  | 23 => ⟨S1x512, .i1⟩
  | 24 => ⟨S1x512, .i1⟩
  | 25 => ⟨S_, .i32⟩
  | 26 => ⟨S1x512, .i32⟩
  | 27 => ⟨S1x512, .i32⟩
  | 28 => ⟨S1x512, .i32⟩
  | 29 => ⟨S_, .i32⟩
  | 30 => ⟨S1x512, .i32⟩
  | 31 => ⟨S1x512, .i32⟩
  | 32 => ⟨S_, .i32⟩
  | 33 => ⟨S_, .i32⟩
  | 34 => ⟨S_, .i32⟩
  | 35 => ⟨S_, .i1⟩
  | 36 => ⟨S_, .i32⟩
  | 37 => ⟨S_, .i32⟩
  | 38 => ⟨S1x512, .i32⟩
  | 39 => ⟨S1x512, .i32⟩
  | 40 => ⟨S_, .i32⟩
  | 41 => ⟨S1x512, .i32⟩
  | 42 => ⟨S1x512, .i1⟩
  | 43 => ⟨S_, .i32⟩
  | 44 => ⟨S1x512, .i32⟩
  | 45 => ⟨S1x512, .i1⟩
  | 46 => ⟨S_, .i32⟩
  | 47 => ⟨S_, .i1⟩
  | 48 => ⟨S1x512, .i1⟩
  | 49 => ⟨S1x512, .i1⟩
  | 50 => ⟨S1x512, .i1⟩
  | 51 => ⟨S1x512, .i32⟩
  | 52 => ⟨S1x512, .i32⟩
  | 53 => ⟨S1x512, .i32⟩
  | 54 => ⟨S1x512, .i32⟩
  | 55 => ⟨S256x512, .i32⟩
  | 56 => ⟨S256x512, .i32⟩
  | 57 => ⟨S256x512, .i1⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S1x512, .i32⟩
  | 65 => ⟨S1x512, .i32⟩
  | 66 => ⟨S_, .i32⟩
  | 67 => ⟨S1x512, .i32⟩
  | 68 => ⟨S1x512, .i1⟩
  | 69 => ⟨S_, .i32⟩
  | 70 => ⟨S1x512, .i32⟩
  | 71 => ⟨S1x512, .i1⟩
  | 72 => ⟨S_, .i32⟩
  | 73 => ⟨S_, .i1⟩
  | 74 => ⟨S1x512, .i1⟩
  | 75 => ⟨S1x512, .i1⟩
  | 76 => ⟨S1x512, .i1⟩
  | 77 => ⟨S1x512, .i32⟩
  | 78 => ⟨S1x512, .i32⟩
  | 79 => ⟨S1x512, .i32⟩
  | 80 => ⟨S_, .i32⟩
  | 81 => ⟨S1x512, .i32⟩
  | 82 => ⟨S1x512, .i1⟩
  | 83 => ⟨S256x512, .i1⟩
  | 84 => ⟨S256x512, .i1⟩
  | 85 => ⟨S512, .i32⟩
  | 86 => ⟨S512x1, .i32⟩
  | 87 => ⟨S512, .i32⟩
  | 88 => ⟨S1x512, .i32⟩
  | 89 => ⟨S_, .i32⟩
  | 90 => ⟨S_, .i32⟩
  | 91 => ⟨S1x512, .i32⟩
  | 92 => ⟨S1x512, .i32⟩
  | 93 => ⟨S1x512, .i32⟩
  | 94 => ⟨S_, .i32⟩
  | 95 => ⟨S1x512, .i32⟩
  | 96 => ⟨S1x512, .i1⟩
  | 97 => ⟨S1x512, .i32⟩
  | 98 => ⟨S1x512, .i32⟩
  | 99 => ⟨S_, .i32⟩
  | 100 => ⟨S1x512, .i32⟩
  | 101 => ⟨S1x512, .i1⟩
  | 102 => ⟨S1x512, .i1⟩
  | 103 => ⟨S_, .i32⟩
  | 104 => ⟨S1x512, .i32⟩
  | 105 => ⟨S1x512, .i32⟩
  | 106 => ⟨S1x512, .i32⟩
  | 107 => ⟨S_, .i32⟩
  | 108 => ⟨S1x512, .i32⟩
  | 109 => ⟨S1x512, .i32⟩
  | 110 => ⟨S_, .i32⟩
  | 111 => ⟨S1x512, .i32⟩
  | 112 => ⟨S1x512, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S1x512, .i32⟩
  | 120 => ⟨S1x512, .i32⟩
  | 121 => ⟨S_, .i32⟩
  | 122 => ⟨S1x512, .i32⟩
  | 123 => ⟨S1x512, .i1⟩
  | 124 => ⟨S_, .i32⟩
  | 125 => ⟨S1x512, .i32⟩
  | 126 => ⟨S1x512, .i1⟩
  | 127 => ⟨S_, .i32⟩
  | _ => ⟨S8x2048x10064, .f32⟩

abbrev hbmTy0_1 (i : Nat) : BufTy := match i % 128 with
  | 0 => ⟨S_, .i1⟩
  | 1 => ⟨S1x512, .i1⟩
  | 2 => ⟨S1x512, .i1⟩
  | 3 => ⟨S1x512, .i1⟩
  | 4 => ⟨S1x512, .i32⟩
  | 5 => ⟨S1x512, .i32⟩
  | 6 => ⟨S1x512, .i32⟩
  | 7 => ⟨S1x512, .i32⟩
  | 8 => ⟨S512x512, .i32⟩
  | 9 => ⟨S512x512, .i32⟩
  | 10 => ⟨S512x512, .i1⟩
  | 11 => ⟨S_, .i32⟩
  | 12 => ⟨S_, .i32⟩
  | 13 => ⟨S_, .i32⟩
  | 14 => ⟨S_, .i1⟩
  | 15 => ⟨S_, .i32⟩
  | 16 => ⟨S_, .i32⟩
  | 17 => ⟨S1x512, .i32⟩
  | 18 => ⟨S1x512, .i32⟩
  | 19 => ⟨S_, .i32⟩
  | 20 => ⟨S1x512, .i32⟩
  | 21 => ⟨S1x512, .i1⟩
  | 22 => ⟨S_, .i32⟩
  | 23 => ⟨S1x512, .i32⟩
  | 24 => ⟨S1x512, .i1⟩
  | 25 => ⟨S_, .i32⟩
  | 26 => ⟨S_, .i1⟩
  | 27 => ⟨S1x512, .i1⟩
  | 28 => ⟨S1x512, .i1⟩
  | 29 => ⟨S1x512, .i1⟩
  | 30 => ⟨S1x512, .i32⟩
  | 31 => ⟨S1x512, .i32⟩
  | 32 => ⟨S1x512, .i32⟩
  | 33 => ⟨S_, .i32⟩
  | 34 => ⟨S1x512, .i32⟩
  | 35 => ⟨S1x512, .i1⟩
  | 36 => ⟨S512x512, .i1⟩
  | 37 => ⟨S512x512, .i1⟩
  | 38 => ⟨S1x64, .f32⟩
  | 39 => ⟨S4x64, .f32⟩
  | 40 => ⟨S256, .f32⟩
  | 41 => ⟨S1x256, .f32⟩
  | 42 => ⟨S1x64, .f32⟩
  | 43 => ⟨S64, .f32⟩
  | 44 => ⟨S128, .f32⟩
  | 45 => ⟨S1x128, .f32⟩
  | 46 => ⟨S1x64, .f32⟩
  | 47 => ⟨S64, .f32⟩
  | 48 => ⟨S128, .f32⟩
  | 49 => ⟨S1x128, .f32⟩
  | 50 => ⟨S256x512, .bf16⟩
  | 51 => ⟨S512x512, .f32⟩
  | 52 => ⟨S8x2048x288, .f32⟩
  | 53 => ⟨S8x2048x48, .f32⟩
  | 54 => ⟨S_, .f32⟩
  | 55 => ⟨S8x2048x176, .f32⟩
  | 56 => ⟨S8x2048x512, .f32⟩
  | 57 => ⟨S1x16384x10064, .f32⟩
  | 58 => ⟨S16384x10064, .f32⟩
  | 59 => ⟨S10064x16384, .f32⟩
  | 60 => ⟨S1536x16384, .f32⟩
  | 61 => ⟨S3x2x4x64x16384, .f32⟩
  | 62 => ⟨S4x3x2x64x16384, .f32⟩
  | 63 => ⟨S1536x16384, .f32⟩
  | 64 => ⟨S_, .f32⟩
  | 65 => ⟨S176x16384, .f32⟩
  | 66 => ⟨S3072x16384, .f32⟩
  | 67 => ⟨S1024x16384, .f32⟩
  | 68 => ⟨S4096x16384, .f32⟩
  | 69 => ⟨S288x16384, .f32⟩
  | 70 => ⟨S48x16384, .f32⟩
  | 71 => ⟨S10240x16384, .f32⟩
  | 72 => ⟨S10240x16384, .bf16⟩
  | 73 => ⟨S16384x10240, .bf16⟩
  | 74 => ⟨S16384x512, .f32⟩
  | 75 => ⟨S8x16x2048x128, .bf16⟩
  | 76 => ⟨S8x4x2560x128, .bf16⟩
  | 77 => ⟨S8x4x2560x128, .bf16⟩
  | 78 => ⟨S8x4x2560x128, .bf16⟩
  | 79 => ⟨S8x4x2560x128, .bf16⟩
  | 80 => ⟨S8x4x2048x128, .f32⟩
  | _ => ⟨S8x2048x10064, .f32⟩

abbrev hbmTy (i : Nat) : BufTy := match i / 128 with
  | 0 => hbmTy0_0 i
  | 1 => hbmTy0_1 i
  | _ => ⟨S8x2048x10064, .f32⟩

abbrev bufTy : (tb : Table) → Fin (tcTables nBuf tb) → BufTy
  | .hbm, ⟨i, _⟩ => hbmTy i
  | .local _ .vmem, ⟨0, _⟩ => ⟨S256x1024, .bf16⟩
  | .local _ .vmem, ⟨1, _⟩ => ⟨S256x1024, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S1x256, .f32⟩
  | .local _ .vmem, ⟨11, _⟩ => ⟨S1x128, .f32⟩
  | .local _ .vmem, ⟨12, _⟩ => ⟨S1x128, .f32⟩
  | .local _ .vmem, ⟨13, _⟩ => ⟨S256x512, .bf16⟩
  | .local _ .vmem, ⟨14, _⟩ => ⟨S512x512, .f32⟩
  | .local _ .vmem, ⟨15, _⟩ => ⟨S1x16x256x128, .bf16⟩
  | .local _ .vmem, ⟨16, _⟩ => ⟨S1x16x256x128, .bf16⟩
  | .local _ .vmem, ⟨17, _⟩ => ⟨S1x4x256x128, .bf16⟩
  | .local _ .vmem, ⟨18, _⟩ => ⟨S1x4x256x128, .bf16⟩
  | .local _ .vmem, ⟨19, _⟩ => ⟨S1x4x256x128, .bf16⟩
  | .local _ .vmem, ⟨20, _⟩ => ⟨S1x4x256x128, .bf16⟩
  | .local _ .vmem, ⟨21, _⟩ => ⟨S1x4x256x128, .bf16⟩
  | .local _ .vmem, ⟨22, _⟩ => ⟨S1x4x256x128, .bf16⟩
  | .local _ .vmem, ⟨23, _⟩ => ⟨S1x4x256x128, .bf16⟩
  | .local _ .vmem, ⟨24, _⟩ => ⟨S1x4x256x128, .bf16⟩
  | .local _ .vmem, ⟨25, _⟩ => ⟨S1x4x256x128, .f32⟩
  | .local _ .vmem, ⟨26, _⟩ => ⟨S1x4x256x128, .f32⟩
  | _, _ => ⟨S8x2048x10064, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v7 : Ref sig .tc := ⟨.hbm, 28, rfl⟩
abbrev main_c_0 : Ref sig .tc := ⟨.hbm, 29, rfl⟩
abbrev main_v8 : Ref sig .tc := ⟨.hbm, 30, rfl⟩
abbrev main_v9 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v15 : Ref sig .tc := ⟨.hbm, 79, rfl⟩
abbrev main_c_3 : Ref sig .tc := ⟨.hbm, 80, rfl⟩
abbrev main_v16 : Ref sig .tc := ⟨.hbm, 81, rfl⟩
abbrev main_v17 : Ref sig .tc := ⟨.hbm, 82, rfl⟩
abbrev main_v18 : Ref sig .tc := ⟨.hbm, 83, rfl⟩
abbrev main_v19 : Ref sig .tc := ⟨.hbm, 84, rfl⟩
abbrev main_v20 : Ref sig .tc := ⟨.hbm, 85, rfl⟩
abbrev main_v21 : Ref sig .tc := ⟨.hbm, 86, rfl⟩
abbrev main_v22 : Ref sig .tc := ⟨.hbm, 87, rfl⟩
abbrev main_v23 : Ref sig .tc := ⟨.hbm, 88, rfl⟩
abbrev main_c_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v24 : Ref sig .tc := ⟨.hbm, 106, rfl⟩
abbrev main_c_5 : Ref sig .tc := ⟨.hbm, 107, rfl⟩
abbrev main_v25 : Ref sig .tc := ⟨.hbm, 108, rfl⟩
abbrev main_v26 : Ref sig .tc := ⟨.hbm, 109, rfl⟩
abbrev main_c_6 : Ref sig .tc := ⟨.hbm, 110, rfl⟩
abbrev main_v27 : Ref sig .tc := ⟨.hbm, 111, rfl⟩
abbrev main_v28 : Ref sig .tc := ⟨.hbm, 112, rfl⟩
abbrev main_c_7 : Ref sig .tc := ⟨.hbm, 113, rfl⟩
abbrev main_call4_v0 : Ref sig .tc := ⟨.hbm, 114, rfl⟩
abbrev main_call4_c : Ref sig .tc := ⟨.hbm, 115, rfl⟩
abbrev main_call4_v1 : Ref sig .tc := ⟨.hbm, 116, rfl⟩
abbrev main_call4_c_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_c_1 : Ref sig .tc := ⟨.hbm, 121, rfl⟩
abbrev main_call4_v5 : Ref sig .tc := ⟨.hbm, 122, rfl⟩
abbrev main_call4_v6 : Ref sig .tc := ⟨.hbm, 123, rfl⟩
abbrev main_call4_c_2 : Ref sig .tc := ⟨.hbm, 124, rfl⟩
abbrev main_call4_v7 : Ref sig .tc := ⟨.hbm, 125, rfl⟩
abbrev main_call4_v8 : Ref sig .tc := ⟨.hbm, 126, rfl⟩
abbrev main_call4_c_3 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_v12 : Ref sig .tc := ⟨.hbm, 131, rfl⟩
abbrev main_call4_v13 : Ref sig .tc := ⟨.hbm, 132, rfl⟩
abbrev main_call4_v14 : Ref sig .tc := ⟨.hbm, 133, rfl⟩
abbrev main_v29 : Ref sig .tc := ⟨.hbm, 134, rfl⟩
abbrev main_v30 : Ref sig .tc := ⟨.hbm, 135, rfl⟩
abbrev main_v31 : Ref sig .tc := ⟨.hbm, 136, rfl⟩
abbrev main_v32 : Ref sig .tc := ⟨.hbm, 137, rfl⟩
abbrev main_v33 : Ref sig .tc := ⟨.hbm, 138, rfl⟩
abbrev main_c_8 : Ref sig .tc := ⟨.hbm, 139, rfl⟩
abbrev main_call5_v0 : Ref sig .tc := ⟨.hbm, 140, rfl⟩
abbrev main_call5_c : Ref sig .tc := ⟨.hbm, 141, rfl⟩
abbrev main_call5_v1 : Ref sig .tc := ⟨.hbm, 142, rfl⟩
abbrev main_call5_c_0 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_c_1 : Ref sig .tc := ⟨.hbm, 147, rfl⟩
abbrev main_call5_v5 : Ref sig .tc := ⟨.hbm, 148, rfl⟩
abbrev main_call5_v6 : Ref sig .tc := ⟨.hbm, 149, rfl⟩
abbrev main_call5_c_2 : Ref sig .tc := ⟨.hbm, 150, rfl⟩
abbrev main_call5_v7 : Ref sig .tc := ⟨.hbm, 151, rfl⟩
abbrev main_call5_v8 : Ref sig .tc := ⟨.hbm, 152, rfl⟩
abbrev main_call5_c_3 : Ref sig .tc := ⟨.hbm, 153, rfl⟩
abbrev main_call5_v9 : Ref sig .tc := ⟨.hbm, 154, rfl⟩
abbrev main_call5_v10 : Ref sig .tc := ⟨.hbm, 155, rfl⟩
abbrev main_call5_v11 : Ref sig .tc := ⟨.hbm, 156, rfl⟩
abbrev main_call5_v12 : Ref sig .tc := ⟨.hbm, 157, rfl⟩
abbrev main_call5_v13 : Ref sig .tc := ⟨.hbm, 158, rfl⟩
abbrev main_call5_v14 : Ref sig .tc := ⟨.hbm, 159, rfl⟩
abbrev main_v34 : Ref sig .tc := ⟨.hbm, 160, rfl⟩
abbrev main_c_9 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩
abbrev main_v38 : Ref sig .tc := ⟨.hbm, 165, rfl⟩
abbrev main_v39 : Ref sig .tc := ⟨.hbm, 166, rfl⟩
abbrev main_v40 : Ref sig .tc := ⟨.hbm, 167, rfl⟩
abbrev main_v41 : Ref sig .tc := ⟨.hbm, 168, rfl⟩
abbrev main_v42 : Ref sig .tc := ⟨.hbm, 169, rfl⟩
abbrev main_v43 : Ref sig .tc := ⟨.hbm, 170, rfl⟩
abbrev main_v44 : Ref sig .tc := ⟨.hbm, 171, rfl⟩
abbrev main_v45 : Ref sig .tc := ⟨.hbm, 172, rfl⟩
abbrev main_v46 : Ref sig .tc := ⟨.hbm, 173, rfl⟩
abbrev main_v47 : Ref sig .tc := ⟨.hbm, 174, rfl⟩
abbrev main_v48 : Ref sig .tc := ⟨.hbm, 175, rfl⟩
abbrev main_v49 : Ref sig .tc := ⟨.hbm, 176, rfl⟩
abbrev main_v50 : Ref sig .tc := ⟨.hbm, 177, rfl⟩
abbrev main_v51 : Ref sig .tc := ⟨.hbm, 178, rfl⟩
abbrev main_v52 : Ref sig .tc := ⟨.hbm, 179, rfl⟩
abbrev main_v53 : Ref sig .tc := ⟨.hbm, 180, rfl⟩
abbrev main_v54 : Ref sig .tc := ⟨.hbm, 181, rfl⟩
abbrev main_cst_10 : Ref sig .tc := ⟨.hbm, 182, rfl⟩
abbrev main_v55 : Ref sig .tc := ⟨.hbm, 183, rfl⟩
abbrev main_v56 : Ref sig .tc := ⟨.hbm, 184, rfl⟩
abbrev main_v57 : Ref sig .tc := ⟨.hbm, 185, rfl⟩
abbrev main_v58 : Ref sig .tc := ⟨.hbm, 186, rfl⟩
abbrev main_v59 : Ref sig .tc := ⟨.hbm, 187, rfl⟩
abbrev main_v60 : Ref sig .tc := ⟨.hbm, 188, rfl⟩
abbrev main_v61 : Ref sig .tc := ⟨.hbm, 189, rfl⟩
abbrev main_v62 : Ref sig .tc := ⟨.hbm, 190, rfl⟩
abbrev main_v63 : Ref sig .tc := ⟨.hbm, 191, rfl⟩
abbrev main_cst_11 : Ref sig .tc := ⟨.hbm, 192, rfl⟩
abbrev main_v64 : Ref sig .tc := ⟨.hbm, 193, rfl⟩
abbrev main_v65 : Ref sig .tc := ⟨.hbm, 194, rfl⟩
abbrev main_v66 : Ref sig .tc := ⟨.hbm, 195, rfl⟩
abbrev main_v67 : Ref sig .tc := ⟨.hbm, 196, rfl⟩
abbrev main_v68 : Ref sig .tc := ⟨.hbm, 197, rfl⟩
abbrev main_v69 : Ref sig .tc := ⟨.hbm, 198, rfl⟩
abbrev main_v70 : Ref sig .tc := ⟨.hbm, 199, rfl⟩
abbrev main_v71 : Ref sig .tc := ⟨.hbm, 200, rfl⟩
abbrev main_v72 : Ref sig .tc := ⟨.hbm, 201, rfl⟩
abbrev main_v73 : Ref sig .tc := ⟨.hbm, 202, rfl⟩
abbrev main_v74_0 : Ref sig .tc := ⟨.hbm, 203, rfl⟩
abbrev main_v74_1 : Ref sig .tc := ⟨.hbm, 204, rfl⟩
abbrev main_v74_2 : Ref sig .tc := ⟨.hbm, 205, rfl⟩
abbrev main_v74_3 : Ref sig .tc := ⟨.hbm, 206, rfl⟩
abbrev main_v74_4 : Ref sig .tc := ⟨.hbm, 207, rfl⟩
abbrev main_v74_5 : Ref sig .tc := ⟨.hbm, 208, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c2_i32_0 : BitVec 32 := 2#32
  let v4 : BitVec 1 := Scalar.cmpi .sge arg1 c2_i32_0
  let v5 : BitVec 32 := Scalar.extui v4
  let c0_i32_1 : BitVec 32 := 0#32
  let v6 : BitVec 1 := Scalar.cmpi .ne v5 c0_i32_1
  v6

def k0_cond1 (i : grid0.Coords) : BitVec 1 :=
  let arg1 : BitVec 32 := BitVec.ofNat 32 (i 1).val
  let c2_i32 : BitVec 32 := 2#32
  let v1 : BitVec 1 := Scalar.cmpi .slt arg1 c2_i32
  let v2 : BitVec 32 := Scalar.extui v1
  let c0_i32 : BitVec 32 := 0#32
  let v3 : BitVec 1 := Scalar.cmpi .ne v2 c0_i32
  v3

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c3_i32 : BitVec 32 := 3#32
  let c0_i32_0 : BitVec 32 := 0#32
  ![v3.toNat, c3_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c16_i32 : BitVec 32 := 16#32
  let c0_i32_0 : BitVec 32 := 0#32
  ![v3.toNat, c16_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c17_i32 : BitVec 32 := 17#32
  let c0_i32_0 : BitVec 32 := 0#32
  ![v3.toNat, c17_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c18_i32 : BitVec 32 := 18#32
  let c0_i32_0 : BitVec 32 := 0#32
  ![v3.toNat, c18_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let c2_i32 : BitVec 32 := 2#32
  let v1 : BitVec 32 := Scalar.subi arg1 c2_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, c0_i32_0.toNat, v1.toNat, c0_i32_1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x16x256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x4x256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x4x256x128 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x4x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrepRefIdeal.lean ====
abbrev S8x2048x10064 : Shape := ⟨3, ![8, 2048, 10064]⟩
abbrev S1x64 : Shape := ⟨2, ![1, 64]⟩
abbrev S1x3x64 : Shape := ⟨3, ![1, 3, 64]⟩
abbrev S8x2048x2608 : Shape := ⟨3, ![8, 2048, 2608]⟩
abbrev S8x2048x1024 : Shape := ⟨3, ![8, 2048, 1024]⟩
abbrev S8x2048x16x64 : Shape := ⟨4, ![8, 2048, 16, 64]⟩
abbrev S8x2048x1536 : Shape := ⟨3, ![8, 2048, 1536]⟩
abbrev S8x2048x6x4x64 : Shape := ⟨5, ![8, 2048, 6, 4, 64]⟩
abbrev S8x2048x48 : Shape := ⟨3, ![8, 2048, 48]⟩
abbrev S_ : Shape := ⟨0, ![]⟩
abbrev S8x2048x4x12 : Shape := ⟨4, ![8, 2048, 4, 12]⟩
abbrev S64 : Shape := ⟨1, ![64]⟩
abbrev S8x2048x16 : Shape := ⟨3, ![8, 2048, 16]⟩
abbrev S8x2048x16x1 : Shape := ⟨4, ![8, 2048, 16, 1]⟩
abbrev S1x1x1x64 : Shape := ⟨4, ![1, 1, 1, 64]⟩
abbrev S8x2048x1x4x64 : Shape := ⟨5, ![8, 2048, 1, 4, 64]⟩
abbrev S8x2048x4x64 : Shape := ⟨4, ![8, 2048, 4, 64]⟩
abbrev S1x1x64 : Shape := ⟨3, ![1, 1, 64]⟩
abbrev S8x2048x4 : Shape := ⟨3, ![8, 2048, 4]⟩
abbrev S8x2048x4x1 : Shape := ⟨4, ![8, 2048, 4, 1]⟩
abbrev S8x16x2048x64 : Shape := ⟨4, ![8, 16, 2048, 64]⟩
abbrev S8x16x2048x128 : Shape := ⟨4, ![8, 16, 2048, 128]⟩
abbrev S2048 : Shape := ⟨1, ![2048]⟩
abbrev S2048x1 : Shape := ⟨2, ![2048, 1]⟩
abbrev S2048x64 : Shape := ⟨2, ![2048, 64]⟩
abbrev S128 : Shape := ⟨1, ![128]⟩
abbrev S8x4x2048x12 : Shape := ⟨4, ![8, 4, 2048, 12]⟩
abbrev S8x4x2048x116 : Shape := ⟨4, ![8, 4, 2048, 116]⟩
abbrev S8x4x2048x128 : Shape := ⟨4, ![8, 4, 2048, 128]⟩
abbrev S8x4x512x128 : Shape := ⟨4, ![8, 4, 512, 128]⟩
abbrev S8x4x2048x64 : Shape := ⟨4, ![8, 4, 2048, 64]⟩
abbrev S8x4x2560x128 : Shape := ⟨4, ![8, 4, 2560, 128]⟩

abbrev nBuf : Space → Nat
  | .hbm => 150
  | .vmem => 0
  | .smem => 0
  | _ => 0

abbrev hbmTy0_0 (i : Nat) : BufTy := match i % 128 with
  | 0 => ⟨S8x2048x10064, .f32⟩
  | 1 => ⟨S1x64, .f32⟩
  | 2 => ⟨S1x3x64, .f32⟩
  | 3 => ⟨S8x2048x2608, .f32⟩
  | 4 => ⟨S8x2048x1024, .f32⟩
  | 5 => ⟨S8x2048x16x64, .f32⟩
  | 6 => ⟨S8x2048x1536, .f32⟩
  | 7 => ⟨S8x2048x6x4x64, .f32⟩
  | 8 => ⟨S8x2048x48, .f32⟩
  | 9 => ⟨S8x2048x48, .f32⟩
  | 10 => ⟨S8x2048x48, .f32⟩
  | 11 => ⟨S_, .f32⟩
  | 12 => ⟨S8x2048x48, .f32⟩
  | 13 => ⟨S8x2048x48, .f32⟩
  | 14 => ⟨S_, .f32⟩
  | 15 => ⟨S8x2048x48, .f32⟩
  | 16 => ⟨S8x2048x48, .f32⟩
  | 17 => ⟨S8x2048x4x12, .f32⟩
  | 18 => ⟨S64, .f32⟩
  | 19 => ⟨S8x2048x16x64, .f32⟩
  | 20 => ⟨S_, .f32⟩
  | 21 => ⟨S8x2048x16, .f32⟩
  | 22 => ⟨S8x2048x16x1, .f32⟩
  | 23 => ⟨S_, .f32⟩
  | 24 => ⟨S8x2048x16x1, .f32⟩
  | 25 => ⟨S8x2048x16x1, .f32⟩
  | 26 => ⟨S_, .f32⟩
  | 27 => ⟨S8x2048x16x1, .f32⟩
  | 28 => ⟨S8x2048x16x1, .f32⟩
  | 29 => ⟨S8x2048x16x1, .f32⟩
  | 30 => ⟨S8x2048x16x64, .f32⟩
  | 31 => ⟨S8x2048x16x64, .f32⟩
  | 32 => ⟨S1x1x1x64, .f32⟩
  | 33 => ⟨S8x2048x16x64, .f32⟩
  | 34 => ⟨S8x2048x16x64, .f32⟩
  | 35 => ⟨S_, .f32⟩
  | 36 => ⟨S8x2048x16x64, .f32⟩
  | 37 => ⟨S8x2048x16x64, .f32⟩
  | 38 => ⟨S8x2048x1x4x64, .f32⟩
  | 39 => ⟨S8x2048x4x64, .f32⟩
  | 40 => ⟨S1x1x64, .f32⟩
  | 41 => ⟨S64, .f32⟩
  | 42 => ⟨S8x2048x4x64, .f32⟩
  | 43 => ⟨S_, .f32⟩
  | 44 => ⟨S8x2048x4, .f32⟩
  | 45 => ⟨S8x2048x4x1, .f32⟩
  | 46 => ⟨S_, .f32⟩
  | 47 => ⟨S8x2048x4x1, .f32⟩
  | 48 => ⟨S8x2048x4x1, .f32⟩
  | 49 => ⟨S_, .f32⟩
  | 50 => ⟨S8x2048x4x1, .f32⟩
  | 51 => ⟨S8x2048x4x1, .f32⟩
  | 52 => ⟨S8x2048x4x1, .f32⟩
  | 53 => ⟨S8x2048x4x64, .f32⟩
  | 54 => ⟨S8x2048x4x64, .f32⟩
  | 55 => ⟨S1x1x1x64, .f32⟩
  | 56 => ⟨S8x2048x4x64, .f32⟩
  | 57 => ⟨S8x2048x4x64, .f32⟩
  | 58 => ⟨S8x2048x1x4x64, .f32⟩
  | 59 => ⟨S8x2048x4x64, .f32⟩
  | 60 => ⟨S1x1x64, .f32⟩
  | 61 => ⟨S64, .f32⟩
  | 62 => ⟨S8x2048x4x64, .f32⟩
  | 63 => ⟨S_, .f32⟩
  | 64 => ⟨S8x2048x4, .f32⟩
  | 65 => ⟨S8x2048x4x1, .f32⟩
  | 66 => ⟨S_, .f32⟩
  | 67 => ⟨S8x2048x4x1, .f32⟩
  | 68 => ⟨S8x2048x4x1, .f32⟩
  | 69 => ⟨S_, .f32⟩
  | 70 => ⟨S8x2048x4x1, .f32⟩
  | 71 => ⟨S8x2048x4x1, .f32⟩
  | 72 => ⟨S8x2048x4x1, .f32⟩
  | 73 => ⟨S8x2048x4x64, .f32⟩
  | 74 => ⟨S8x2048x4x64, .f32⟩
  | 75 => ⟨S1x1x1x64, .f32⟩
  | 76 => ⟨S8x2048x4x64, .f32⟩
  | 77 => ⟨S8x2048x4x64, .f32⟩
  | 78 => ⟨S8x16x2048x64, .f32⟩
  | 79 => ⟨S_, .f32⟩
  | 80 => ⟨S8x16x2048x64, .f32⟩
  | 81 => ⟨S8x16x2048x128, .f32⟩
  | 82 => ⟨S2048, .i32⟩
  | 83 => ⟨S2048x1, .i32⟩
  | 84 => ⟨S_, .i32⟩
  | 85 => ⟨S_, .i32⟩
  | 86 => ⟨S2048x1, .i32⟩
  | 87 => ⟨S2048x1, .i32⟩
  | 88 => ⟨S2048x1, .i32⟩
  | 89 => ⟨S_, .i32⟩
  | 90 => ⟨S2048x1, .i32⟩
  | 91 => ⟨S2048x1, .i1⟩
  | 92 => ⟨S2048x1, .i32⟩
  | 93 => ⟨S2048x1, .i32⟩
  | 94 => ⟨S_, .i32⟩
  | 95 => ⟨S2048x1, .i32⟩
  | 96 => ⟨S2048x1, .i1⟩
  | 97 => ⟨S2048x1, .i1⟩
  | 98 => ⟨S_, .i32⟩
  | 99 => ⟨S2048x1, .i32⟩
  | 100 => ⟨S2048x1, .i32⟩
  | 101 => ⟨S2048x1, .i32⟩
  | 102 => ⟨S64, .i32⟩
  | 103 => ⟨S1x64, .i32⟩
  | 104 => ⟨S2048x64, .i32⟩
  | 105 => ⟨S2048x64, .i32⟩
  | 106 => ⟨S2048x64, .i1⟩
  | 107 => ⟨S2048x64, .f32⟩
  | 108 => ⟨S128, .i32⟩
  | 109 => ⟨S_, .i32⟩
  | 110 => ⟨S128, .i32⟩
  | 111 => ⟨S128, .i1⟩
  | 112 => ⟨S128, .f32⟩
  | 113 => ⟨S8x4x2048x12, .f32⟩
  | 114 => ⟨S_, .f32⟩
  | 115 => ⟨S8x4x2048x116, .f32⟩
  | 116 => ⟨S8x4x2048x128, .f32⟩
  | 117 => ⟨S8x16x2048x128, .bf16⟩
  | 118 => ⟨S8x4x512x128, .f32⟩
  | 119 => ⟨S8x4x2048x64, .f32⟩
  | 120 => ⟨S8x4x2048x64, .f32⟩
  | 121 => ⟨S8x4x2048x128, .f32⟩
  | 122 => ⟨S8x4x2560x128, .f32⟩
  | 123 => ⟨S8x4x2560x128, .bf16⟩
  | 124 => ⟨S8x2048x1x4x64, .f32⟩
  | 125 => ⟨S8x2048x4x64, .f32⟩
  | 126 => ⟨S_, .f32⟩
  | 127 => ⟨S8x4x512x128, .f32⟩
  | _ => ⟨S8x2048x10064, .f32⟩

abbrev hbmTy0_1 (i : Nat) : BufTy := match i % 128 with
  | 0 => ⟨S_, .f32⟩
  | 1 => ⟨S8x4x2048x64, .f32⟩
  | 2 => ⟨S8x4x2048x64, .f32⟩
  | 3 => ⟨S8x4x2048x128, .f32⟩
  | 4 => ⟨S8x4x2560x128, .f32⟩
  | 5 => ⟨S8x4x2560x128, .bf16⟩
  | 6 => ⟨S8x4x512x128, .f32⟩
  | 7 => ⟨S8x4x2048x64, .f32⟩
  | 8 => ⟨S8x4x2048x64, .f32⟩
  | 9 => ⟨S8x4x2048x128, .f32⟩
  | 10 => ⟨S8x4x2560x128, .f32⟩
  | 11 => ⟨S8x4x2560x128, .bf16⟩
  | 12 => ⟨S8x2048x1x4x64, .f32⟩
  | 13 => ⟨S8x2048x4x64, .f32⟩
  | 14 => ⟨S_, .f32⟩
  | 15 => ⟨S8x4x512x128, .f32⟩
  | 16 => ⟨S_, .f32⟩
  | 17 => ⟨S8x4x2048x64, .f32⟩
  | 18 => ⟨S8x4x2048x64, .f32⟩
  | 19 => ⟨S8x4x2048x128, .f32⟩
  | 20 => ⟨S8x4x2560x128, .f32⟩
  | 21 => ⟨S8x4x2560x128, .bf16⟩
  | _ => ⟨S8x2048x10064, .f32⟩

abbrev hbmTy (i : Nat) : BufTy := match i / 128 with
  | 0 => hbmTy0_0 i
  | 1 => hbmTy0_1 i
  | _ => ⟨S8x2048x10064, .f32⟩

abbrev bufTy : (tb : Table) → Fin (tcTables nBuf tb) → BufTy
  | .hbm, ⟨i, _⟩ => hbmTy i
  | _, _ => ⟨S8x2048x10064, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_cst_6 : Ref sig .tc := ⟨.hbm, 46, rfl⟩
abbrev main_v36 : Ref sig .tc := ⟨.hbm, 47, rfl⟩
abbrev main_v37 : Ref sig .tc := ⟨.hbm, 48, rfl⟩
abbrev main_cst_7 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_8 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_cst_11 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c : Ref sig .tc := ⟨.hbm, 84, rfl⟩
abbrev main_call0_v0 : Ref sig .tc := ⟨.hbm, 85, rfl⟩
abbrev main_call0_v1 : Ref sig .tc := ⟨.hbm, 86, rfl⟩
abbrev main_call0_v2 : Ref sig .tc := ⟨.hbm, 87, rfl⟩
abbrev main_call0_v3 : Ref sig .tc := ⟨.hbm, 88, rfl⟩
abbrev main_call0_v4 : Ref sig .tc := ⟨.hbm, 89, rfl⟩
abbrev main_call0_v5 : Ref sig .tc := ⟨.hbm, 90, rfl⟩
abbrev main_call0_v6 : Ref sig .tc := ⟨.hbm, 91, rfl⟩
abbrev main_call0_v7 : Ref sig .tc := ⟨.hbm, 92, rfl⟩
abbrev main_call0_v8 : Ref sig .tc := ⟨.hbm, 93, rfl⟩
abbrev main_call0_c : Ref sig .tc := ⟨.hbm, 94, rfl⟩
abbrev main_call0_v9 : Ref sig .tc := ⟨.hbm, 95, rfl⟩
abbrev main_call0_v10 : Ref sig .tc := ⟨.hbm, 96, rfl⟩
abbrev main_call0_v11 : Ref sig .tc := ⟨.hbm, 97, rfl⟩
abbrev main_call0_c_0 : Ref sig .tc := ⟨.hbm, 98, rfl⟩
abbrev main_call0_v12 : Ref sig .tc := ⟨.hbm, 99, rfl⟩
abbrev main_call0_v13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_c_12 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_cst_13 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_14 : Ref sig .tc := ⟨.hbm, 126, rfl⟩
abbrev main_v91 : Ref sig .tc := ⟨.hbm, 127, rfl⟩
abbrev main_cst_15 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_cst_16 : Ref sig .tc := ⟨.hbm, 142, rfl⟩
abbrev main_v105 : Ref sig .tc := ⟨.hbm, 143, rfl⟩
abbrev main_cst_17 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]
-- ==== Proof.MlpBlock.lean ====
/- What one grid point of the MLP kernel computes, read at an index over the extended reals.  The grid visits, for each
   band of 512 rows, the eight stretches of 1024 columns of the hidden layer; a point adds its stretch's share of the
   down projection to a carried accumulator, and the last point of the band stores the residual sum. -/
module

public import proofs.«01_k».proof.Proof.Gen.MlpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MlpIdeal.Block

open Cert.MlpIdeal Cert.MlpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One unit of the hidden layer at row `r` of the block and column `k` of the stretch: the positive part of the product
    of the row with the up weight's column. -/
def hid (h : FVec Ideal S512x2048 .bf16) (wu : FVec Ideal S2048x1024 .bf16) (r : Fin 512) (k : Fin 1024) : EReal :=
  max (∑ d : Fin 2048, h (ix2 r d) * wu (ix2 d k)) 0

/-- The stretch's share of the down projection at row `r` and column `n`: the sum over the stretch of the squared hidden
    units times the down weight. -/
def part (h : FVec Ideal S512x2048 .bf16) (wu : FVec Ideal S2048x1024 .bf16) (wd : FVec Ideal S1024x2048 .bf16)
    (r : Fin 512) (n : Fin 2048) : EReal :=
  ∑ k : Fin 1024, hid h wu r k * hid h wu r k * wd (ix2 k n)

/-- The first point of a band leaves in the accumulator its stretch's share. -/
theorem acc_first (c : Dev nD) (t : Fin cfg0.N) (h : t.val % 8 = 0) (y : S512x2048.Idx) :
    (outsAt0 m c t.val t.isLt).2 y = part (iblk m c 0 t) (iblk m c 1 t) (iblk m c 2 t) (y 0) (y 1) := by
  rw [outsAt0_A m c t h (by omega) (by omega)]
  obtain ⟨r, n, rfl⟩ : ∃ (r : Fin 512) (n : Fin 2048), y = ix2 r n := ⟨y 0, y 1, eq_ix2 y⟩
  frame_out
  canon_tiles x hx
  all_goals
    unfold_payloads
    pointwise
    simp only [ix2_0, ix2_1] at hx0 hx1 ⊢
    have hr : (x 0 : Fin 512) = r := Fin.ext hx0.symm
    simp only [part, hid, hr, ← hx1, Fin.eta]

/-- A point in the middle of a band adds its stretch's share to what the point before left. -/
theorem acc_step (c : Dev nD) (t : Fin cfg0.N) (h : 1 ≤ t.val % 8 ∧ t.val % 8 ≤ 6) (y : S512x2048.Idx) :
    (outsAt0 m c t.val t.isLt).2 y
      = (outsAt0 m c (t.val - 1) (Nat.lt_of_le_of_lt (Nat.sub_le _ _) t.isLt)).2 y
        + part (iblk m c 0 t) (iblk m c 1 t) (iblk m c 2 t) (y 0) (y 1) := by
  rw [outsAt0_B m c t (by omega) h (by omega)]
  generalize (outsAt0 m c (t.val - 1) (Nat.lt_of_le_of_lt (Nat.sub_le _ _) t.isLt)).2 = acc
  obtain ⟨r, n, rfl⟩ : ∃ (r : Fin 512) (n : Fin 2048), y = ix2 r n := ⟨y 0, y 1, eq_ix2 y⟩
  frame_out
  canon_tiles x hx
  all_goals
    unfold_payloads
    simp only [read_unread_whole]
    pointwise
    simp only [ix2_0, ix2_1] at hx0 hx1 ⊢
    have hr : (x 0 : Fin 512) = r := Fin.ext hx0.symm
    simp only [part, hid, hr, ← hx1, Fin.eta]

/-- The residual, read at an index: the input row plus the gate times a down projection. -/
def resid (x : FVec Ideal S512x2048 .f32) (g : FVec Ideal S1x1x2048 .f32) (r : Fin 512) (n : Fin 2048) (d : EReal) : EReal :=
  x (ix2 r n) + g (ix3 0 0 n) * d

/-- The last point of a band stores the residual: the input row plus the gate times the accumulated down projection. -/
theorem out_last (c : Dev nD) (t : Fin cfg0.N) (h : t.val % 8 = 7) (y : S512x2048.Idx) :
    (outsAt0 m c t.val t.isLt).1 y
      = resid (iblk m c 3 t) (iblk m c 4 t) (y 0) (y 1)
          ((outsAt0 m c (t.val - 1) (Nat.lt_of_le_of_lt (Nat.sub_le _ _) t.isLt)).2 y
            + part (iblk m c 0 t) (iblk m c 1 t) (iblk m c 2 t) (y 0) (y 1)) := by
  rw [outsAt0_C m c t (by omega) (by omega) h]
  generalize (outsAt0 m c (t.val - 1) (Nat.lt_of_le_of_lt (Nat.sub_le _ _) t.isLt)).2 = acc
  obtain ⟨r, n, rfl⟩ : ∃ (r : Fin 512) (n : Fin 2048), y = ix2 r n := ⟨y 0, y 1, eq_ix2 y⟩
  frame_out
  canon_tiles x hx
  all_goals
    unfold_payloads
    simp only [read_unread_whole]
    pointwise
    simp only [ix2_0, ix2_1] at hx0 hx1 ⊢
    have hr : (x 0 : Fin 512) = r := Fin.ext hx0.symm
    simp only [part, hid, resid, hr, ← hx1, Fin.eta]

end Cert.MlpIdeal.Block
-- ==== Proof.MlpArray.lean ====
/- What the MLP kernel's result array holds after the run, over the extended reals: at every row and column the input
   plus the gate times the down projection of the squared positive parts of the up projection. -/
module

public import proofs.«01_k».proof.Proof.MlpBlock
public import Idealize.ShloMosaic.Lib.Pipeline.ValueKit.Point

@[expose] public section

set_option maxRecDepth 16384

noncomputable section

namespace Cert.MlpIdeal.Block

open Cert.MlpIdeal Cert.MlpIdeal.Gen Idealize.ShloMosaic Idealize.ShloMosaic.TcCoe Idealize.SL.Sem
open Idealize.ShloMosaic.Pipeline (Dat)

/-- The MLP with squared positive part, at a flattened row and a column: `x + gate * ((max (h · up) 0)² · down)`, the gate
    being the last sixth of the row's modulation vector. -/
def mlp (h : FVec Ideal S8x2048x2048 .f32) (wu : FVec Ideal S1x2048x8192 .f32) (wd : FVec Ideal S1x8192x2048 .f32)
    (x : FVec Ideal S8x2048x2048 .f32) (md : FVec Ideal S8x12288 .f32) (r : Fin 16384) (n : Fin 2048) : EReal :=
  x (ix3 ⟨r.val / 2048, by omega⟩ ⟨r.val % 2048, by omega⟩ n)
    + md (ix2 ⟨r.val / 2048, by omega⟩ ⟨10240 + n.val, by omega⟩)
      * ∑ k : Fin 8192,
          max (∑ d : Fin 2048, h (ix3 ⟨r.val / 2048, by omega⟩ ⟨r.val % 2048, by omega⟩ d) * wu (ix3 0 d k)) 0
            * max (∑ d : Fin 2048, h (ix3 ⟨r.val / 2048, by omega⟩ ⟨r.val % 2048, by omega⟩ d) * wu (ix3 0 d k)) 0
            * wd (ix3 0 k n)

variable (m : (ℓ : Loc nD τ sig) → Buf (Elt Ideal) ℓ) (ρ : Dev nD → PrngReg)

/-- Which block of its array each window shows at each point: the row band is the point's quotient by eight, the stretch
    of the hidden layer its remainder, the gate's row the sixth of the batch the band lies in. -/
theorem idx : ∀ t : Fin cfg0.N,
    win0_0.index t = ![t.val / 8, 0] ∧ win0_1.index t = ![0, t.val % 8] ∧ win0_2.index t = ![t.val % 8, 0]
      ∧ win0_3.index t = ![t.val / 8, 0] ∧ win0_4.index t = ![t.val / 32 * 6 + 5, 0, 0] :=
  (by decide +kernel : ∀ t : Fin grid0.N, _)

/-- The accumulator before the last point of a band and that point's share: the sum of the eight stretches' shares. -/
theorem acc_sum (c : Dev nD) (t : Fin cfg0.N) (h : t.val % 8 = 7) (r : Fin 512) (n : Fin 2048) :
    (outsAt0 m c (t.val - 1) (Nat.lt_of_le_of_lt (Nat.sub_le _ _) t.isLt)).2 (ix2 r n)
        + part (iblk m c 0 t) (iblk m c 1 t) (iblk m c 2 t) r n
      = ∑ s : Fin 8, part (iblk m c 0 ⟨8 * (t.val / 8) + s.val, Pipeline.run_point_lt_of_flush t h s⟩)
          (iblk m c 1 ⟨8 * (t.val / 8) + s.val, Pipeline.run_point_lt_of_flush t h s⟩)
          (iblk m c 2 ⟨8 * (t.val / 8) + s.val, Pipeline.run_point_lt_of_flush t h s⟩) r n := by
  have e := Pipeline.eq_sum_fin_of_reset_step_apply_of_flush (N := cfg0.N) (M := EReal)
    (fun a ha (_ : Unit) => if a % 8 = 7
      then ((outsAt0 m c (a - 1) (Nat.lt_of_le_of_lt (Nat.sub_le _ _) ha)).2 (ix2 r n) : EReal)
        + part (iblk m c 0 ⟨a, ha⟩) (iblk m c 1 ⟨a, ha⟩) (iblk m c 2 ⟨a, ha⟩) r n
      else (outsAt0 m c a ha).2 (ix2 r n)) 8 (fun _ => 0)
    (fun t _ => part (iblk m c 0 t) (iblk m c 1 t) (iblk m c 2 t) r n)
    (fun t ht _ => by
      rw [if_neg (by omega), zero_add]
      exact acc_first m c t ht (ix2 r n))
    (fun t ht _ => by
      rw [if_neg (by omega : ¬ (t.val - 1) % 8 = 7)]
      by_cases h7 : t.val % 8 = 7
      · rw [if_pos h7]
      · rw [if_neg h7]
        exact acc_step m c t (by omega) (ix2 r n))
    t h ()
  rw [if_pos h, zero_add] at e
  exact e

/-- The result array after the run is the MLP of the arguments. -/
theorem array (c : Dev nD) : Value.G5 m c = fun i =>
    mlp (m ((c : Thread nD τ).loc main_arg0)) (m ((c : Thread nD τ).loc main_arg1)) (m ((c : Thread nD τ).loc main_arg2))
      (m ((c : Thread nD τ).loc main_arg3)) (m ((c : Thread nD τ).loc main_arg4)) (i 0) (i 1) := by
  funext i
  obtain ⟨r, n, rfl⟩ : ∃ (r : Fin 16384) (n : Fin 2048), i = ix2 r n := ⟨i 0, i 1, eq_ix2 i⟩
  have hp : Value.pt5Of (ix2 r n) = 8 * (r.val / 512) + 7 := by
    show 8 * (1 * (r.val / 512 - 0) + 1 * (n.val / 2048 - 0)) + 7 = _
    omega
  have hN : Value.pt5Of (ix2 r n) < cfg0.N := by
    rw [hp, show cfg0.N = 256 from N_0]; omega
  unfold Value.G5
  rw [dif_pos hN, ← Value.outsAt0_sweep m c _ hN]
  generalize hT : (⟨Value.pt5Of (ix2 r n), hN⟩ : Fin cfg0.N) = T
  have hTv : T.val = 8 * (r.val / 512) + 7 := by rw [← hT]; exact hp
  have hl : Value.loc5Of (ix2 r n) = ix2 (⟨r.val % 512, by omega⟩ : Fin 512) n := by
    rw [eq_ix2 (Value.loc5Of (ix2 r n))]
    congr 1
    exact Fin.ext (show n.val % 2048 = n.val by omega)
  rw [show (outsAt0 m c (Value.pt5Of (ix2 r n)) hN) = outsAt0 m c T.val T.isLt from by subst hT; rfl, hl]
  refine (out_last m c T (by omega) _).trans ((congrArg _ (acc_sum m c T (by omega) _ _)).trans ?_)
  unfold resid part mlp hid
  simp only [ix2_0, ix2_1]
  have hS := fun s : Fin 8 => idx ⟨8 * (T.val / 8) + s.val, Pipeline.run_point_lt_of_flush T (by omega) s⟩
  congr 1
  · blk_point [iblk, V, idx T]
  · congr 1
    · blk_point [iblk, V, idx T]
    · refine Fin.sum_mul_add_congr fun s k hl => ?_
      blk_point [iblk, V, idx T, hS s]

end Cert.MlpIdeal.Block
-- ==== Proof.MlpEq.lean ====
/- The MLP kernel's result array equals the reference's: both are the MLP of the arguments. -/
module

public import proofs.«01_k».proof.Defs
public import proofs.«01_k».proof.Proof.MlpArray
public import proofs.«01_k».proof.Proof.Gen.MlpRefIdeal.Run
public import Idealize.ShloMosaic.Lib.Tactic.CleanTypes

@[expose] public section

set_option maxRecDepth 16384

noncomputable section

namespace Cert.Proof

open Idealize.ShloMosaic Idealize.SL.Sem

/-- The kernel's and the reference's results are equal on memories that agree on the arguments. -/
theorem mlp_equal : algebraic_MlpIdeal_MlpRefIdeal := by
  intro m ρ m' ρ' _ hagree
  refine ⟨_, Cert.MlpIdeal.Value.run (F := Ideal) m ρ, ?_⟩
  refine (θ_run Cert.MlpRefIdeal.defs _ _).mono (fun _ h c => ⟨?_, (h c).2⟩) (Cert.MlpRefIdeal.Value.run (F := Ideal) m' ρ')
  rw [(h c).1, Cert.MlpIdeal.Block.array]
  simp only [hagree c]
  clean_types
  funext i
  pointwise [Cert.MlpIdeal.Block.mlp]

end Cert.Proof
-- ==== Proof.MopBlock.lean ====
/- What one grid point of the merge and out-projection kernel computes, read at an index over the extended reals: the gated
   sum of the two mixers' projections, its out projection added to the input through the gate, and the modulated norm of
   that residual row. -/
module

public import proofs.«01_k».proof.Proof.Gen.MopIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.MopIdeal.Block

open Cert.MopIdeal Cert.MopIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The gated sum of the two mixers' projections at row `r` of the block and column `k`. -/
def mix (oa : FVec Ideal S256x1024 .bf16) (wa : FVec Ideal S1024x2048 .bf16) (ob : FVec Ideal S256x1024 .bf16)
    (wb : FVec Ideal S1024x2048 .bf16) (ga gb : FVec Ideal S256x2048 .bf16) (r : Fin 256) (k : Fin 2048) : EReal :=
  Ideal.logistic (ga (ix2 r k)) * ∑ d : Fin 1024, oa (ix2 r d) * wa (ix2 d k)
    + Ideal.logistic (gb (ix2 r k)) * ∑ d : Fin 1024, ob (ix2 r d) * wb (ix2 d k)

/-- The residual row: the input plus the gate times the out projection of the gated sum. -/
def resid (oa : FVec Ideal S256x1024 .bf16) (wa : FVec Ideal S1024x2048 .bf16) (ob : FVec Ideal S256x1024 .bf16)
    (wb : FVec Ideal S1024x2048 .bf16) (ga gb : FVec Ideal S256x2048 .bf16) (w : FVec Ideal S2048x2048 .bf16)
    (x : FVec Ideal S256x2048 .f32) (gt : FVec Ideal S1x1x2048 .f32) (r : Fin 256) (n : Fin 2048) : EReal :=
  x (ix2 r n) + gt (ix3 0 0 n) * ∑ k : Fin 2048, mix oa wa ob wb ga gb r k * w (ix2 k n)

/-- The modulated norm of a row `x` at column `n`. -/
def mnorm (x : Fin 2048 → EReal) (g sc sh : EReal) (n : Fin 2048) : EReal :=
  x n * Ideal.rsqrt (Ideal.div (∑ k : Fin 2048, x k * x k) (Ideal.ofBits .f32 0x45000000#32)
      + Ideal.ofBits .f32 0x358637BD#32) * g * (1 + sc) + sh

/-- The first result block of a point is the residual. -/
theorem out_resid (c : Dev nD) (t : Fin cfg0.N) (r : Fin 256) (n : Fin 2048) :
    (dats m 0 c).after 12 t (ix2 r n)
      = resid (iblk m c 0 t) (iblk m c 2 t) (iblk m c 1 t) (iblk m c 3 t) (iblk m c 4 t) (iblk m c 5 t) (iblk m c 6 t)
          (iblk m c 7 t) (iblk m c 8 t) r n := by
  rw [after0_12]
  frame_out
  unfold_payloads
  pointwise [resid, mix]

/-- The second is the modulated norm of the first. -/
theorem out_norm (c : Dev nD) (t : Fin cfg0.N) (r : Fin 256) (n : Fin 2048) :
    (dats m 0 c).after 13 t (ix2 r n)
      = mnorm (resid (iblk m c 0 t) (iblk m c 2 t) (iblk m c 1 t) (iblk m c 3 t) (iblk m c 4 t) (iblk m c 5 t) (iblk m c 6 t)
          (iblk m c 7 t) (iblk m c 8 t) r) ((iblk m c 9 t : FVec Ideal S1x2048 .f32) (ix2 0 n))
          ((iblk m c 11 t : FVec Ideal S1x1x2048 .f32) (ix3 0 0 n)) ((iblk m c 10 t : FVec Ideal S1x1x2048 .f32) (ix3 0 0 n)) n := by
  rw [after0_13]
  frame_out
  unfold_payloads
  pointwise [mnorm, resid, mix]

end Cert.MopIdeal.Block
-- ==== Proof.MopArray.lean ====
/- What the two result arrays of the merge and out-projection kernel hold after the run, over the extended reals. -/
module

public import proofs.«01_k».proof.Proof.MopBlock
public import Idealize.ShloMosaic.Lib.Pipeline.ValueKit.Point
public import Idealize.ShloMosaic.Lib.StableHlo.ReadAt

@[expose] public section

set_option maxRecDepth 16384

noncomputable section

namespace Cert.MopIdeal.Block

open Cert.MopIdeal Cert.MopIdeal.Gen Idealize.ShloMosaic Idealize.ShloMosaic.TcCoe Idealize.SL.Sem
open Idealize.ShloMosaic.Pipeline (Dat)

/-- Two triple indices with equal coordinates are equal. -/
theorem same3 {A B C : ℕ} {a a' : Fin A} {b b' : Fin B} {d d' : Fin C} (ha : a.val = a'.val) (hb : b.val = b'.val)
    (hd : d.val = d'.val) : ix3 a b d = ix3 a' b' d' := by
  rw [Fin.ext ha, Fin.ext hb, Fin.ext hd]

/-- The gated sum of the two mixers' projections at row `r` of batch `b` and column `k`: the gates are the logistic
    function of the projection's last 4096 columns. -/
def mixed (oa ob : FVec Ideal S8x2048x1024 .f32) (wa wb : FVec Ideal S1x1024x2048 .f32)
    (p : FVec Ideal S8x2048x10064 .f32) (b : Fin 8) (r k : Fin 2048) : EReal :=
  Ideal.logistic (p (ix3 b r ⟨5968 + k.val, by omega⟩)) * (∑ d : Fin 1024, oa (ix3 b r d) * wa (ix3 0 d k))
    + Ideal.logistic (p (ix3 b r ⟨8016 + k.val, by omega⟩)) * (∑ d : Fin 1024, ob (ix3 b r d) * wb (ix3 0 d k))

/-- The residual: the input plus the gate, the third sixth of the modulation, times the out projection. -/
def res (oa ob : FVec Ideal S8x2048x1024 .f32) (wa wb : FVec Ideal S1x1024x2048 .f32)
    (p : FVec Ideal S8x2048x10064 .f32) (w : FVec Ideal S1x2048x2048 .f32) (x : FVec Ideal S8x2048x2048 .f32)
    (md : FVec Ideal S8x12288 .f32) (b : Fin 8) (r n : Fin 2048) : EReal :=
  x (ix3 b r n) + md (ix2 b ⟨4096 + n.val, by omega⟩) * ∑ k : Fin 2048, mixed oa ob wa wb p b r k * w (ix3 0 k n)

variable (m : (ℓ : Loc nD τ sig) → Buf (Elt Ideal) ℓ) (ρ : Dev nD → PrngReg)

/-- The residual of the memory's arguments. -/
abbrev resOf (c : Dev nD) : Fin 8 → Fin 2048 → Fin 2048 → EReal :=
  res (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- Which block of its array each window shows at each point. -/
theorem idx : ∀ t : Fin cfg0.N,
    win0_0.index t = ![t.val, 0] ∧ win0_1.index t = ![t.val, 0] ∧ win0_2.index t = ![0, 0] ∧ win0_3.index t = ![0, 0]
      ∧ win0_4.index t = ![t.val, 2] ∧ win0_5.index t = ![t.val, 3] ∧ win0_6.index t = ![0, 0] ∧ win0_7.index t = ![t.val, 0]
      ∧ win0_8.index t = ![t.val / 8 * 6 + 2, 0, 0] ∧ win0_9.index t = ![0, 0] ∧ win0_10.index t = ![t.val / 8 * 6 + 3, 0, 0]
      ∧ win0_11.index t = ![t.val / 8 * 6 + 4, 0, 0] ∧ win0_12.index t = ![t.val, 0] ∧ win0_13.index t = ![t.val, 0] :=
  (by decide +kernel : ∀ t : Fin grid0.N, _)

/-- The gate block of the first mixer holds the projection's columns from 5968 on. -/
theorem gate_a (c : Dev nD) (t : Fin cfg0.N) (r : Fin 256) (k : Fin 2048) (b : Fin 8) (q : Fin 2048)
    (hb : b.val = t.val / 8) (hq : q.val = t.val % 8 * 256 + r.val) :
    (iblk m c 4 t : FVec Ideal S256x2048 .bf16) (ix2 r k)
      = (m ((c : Thread nD τ).loc main_arg4) : FVec Ideal S8x2048x10064 .f32) (ix3 b q ⟨5968 + k.val, by omega⟩) := by
  have hN : t.val < 64 := t.isLt.trans_eq N_0
  blk_simp [iblk, V]
  rw [show (win0_4.blk t).view.emb (ix2 r k) = ix2 (⟨t.val * 256 + r.val, by omega⟩ : Fin 16384) (⟨4096 + k.val, by omega⟩ : Fin 10240) from by blk_ext [idx t]]
  after_reads_simp
  pointwise
  rw [dif_neg (by omega), dif_neg (by omega), dif_pos (by omega)]
  after_reads_at
  exact congrArg (m (c, Proc.tc.devRef main_arg4)) (same3 (by dsimp only; omega) (by dsimp only; omega) (by dsimp only; omega))

/-- The gate block of the second mixer holds the projection's columns from 8016 on. -/
theorem gate_b (c : Dev nD) (t : Fin cfg0.N) (r : Fin 256) (k : Fin 2048) (b : Fin 8) (q : Fin 2048)
    (hb : b.val = t.val / 8) (hq : q.val = t.val % 8 * 256 + r.val) :
    (iblk m c 5 t : FVec Ideal S256x2048 .bf16) (ix2 r k)
      = (m ((c : Thread nD τ).loc main_arg4) : FVec Ideal S8x2048x10064 .f32) (ix3 b q ⟨8016 + k.val, by omega⟩) := by
  have hN : t.val < 64 := t.isLt.trans_eq N_0
  blk_simp [iblk, V]
  rw [show (win0_5.blk t).view.emb (ix2 r k) = ix2 (⟨t.val * 256 + r.val, by omega⟩ : Fin 16384) (⟨6144 + k.val, by omega⟩ : Fin 10240) from by blk_ext [idx t]]
  after_reads_simp
  pointwise
  rw [dif_neg (by omega), dif_neg (by omega), dif_pos (by omega)]
  after_reads_at
  exact congrArg (m (c, Proc.tc.devRef main_arg4)) (same3 (by dsimp only; omega) (by dsimp only; omega) (by dsimp only; omega))

/-- The first mixer's block holds the rows of its band. -/
theorem mixer_a (c : Dev nD) (t : Fin cfg0.N) (r : Fin 256) (k : Fin 1024) (b : Fin 8) (q : Fin 2048)
    (hb : b.val = t.val / 8) (hq : q.val = t.val % 8 * 256 + r.val) :
    (iblk m c 0 t : FVec Ideal S256x1024 .bf16) (ix2 r k)
      = (m ((c : Thread nD τ).loc main_arg0) : FVec Ideal S8x2048x1024 .f32) (ix3 b q k) := by
  have hN : t.val < 64 := t.isLt.trans_eq N_0
  blk_simp [iblk, V]
  rw [show (win0_0.blk t).view.emb (ix2 r k) = ix2 (⟨t.val * 256 + r.val, by omega⟩ : Fin 16384) k from by blk_ext [idx t]]
  after_reads_at
  exact congrArg (m (c, Proc.tc.devRef main_arg0)) (by congr 1 <;> exact Fin.ext (by first | omega | (dsimp only; omega) | rfl))

/-- The second mixer's block holds the rows of its band. -/
theorem mixer_b (c : Dev nD) (t : Fin cfg0.N) (r : Fin 256) (k : Fin 1024) (b : Fin 8) (q : Fin 2048)
    (hb : b.val = t.val / 8) (hq : q.val = t.val % 8 * 256 + r.val) :
    (iblk m c 1 t : FVec Ideal S256x1024 .bf16) (ix2 r k)
      = (m ((c : Thread nD τ).loc main_arg1) : FVec Ideal S8x2048x1024 .f32) (ix3 b q k) := by
  have hN : t.val < 64 := t.isLt.trans_eq N_0
  blk_simp [iblk, V]
  rw [show (win0_1.blk t).view.emb (ix2 r k) = ix2 (⟨t.val * 256 + r.val, by omega⟩ : Fin 16384) k from by blk_ext [idx t]]
  after_reads_at
  exact congrArg (m (c, Proc.tc.devRef main_arg1)) (by congr 1 <;> exact Fin.ext (by first | omega | (dsimp only; omega) | rfl))

/-- The input's block holds the rows of its band. -/
theorem input (c : Dev nD) (t : Fin cfg0.N) (r : Fin 256) (k : Fin 2048) (b : Fin 8) (q : Fin 2048)
    (hb : b.val = t.val / 8) (hq : q.val = t.val % 8 * 256 + r.val) :
    (iblk m c 7 t : FVec Ideal S256x2048 .f32) (ix2 r k)
      = (m ((c : Thread nD τ).loc main_arg6) : FVec Ideal S8x2048x2048 .f32) (ix3 b q k) := by
  have hN : t.val < 64 := t.isLt.trans_eq N_0
  blk_simp [iblk, V]
  rw [show (win0_7.blk t).view.emb (ix2 r k) = ix2 (⟨t.val * 256 + r.val, by omega⟩ : Fin 16384) k from by blk_ext [idx t]]
  after_reads_at
  exact congrArg (m (c, Proc.tc.devRef main_arg6)) (by congr 1 <;> exact Fin.ext (by first | omega | (dsimp only; omega) | rfl))

/-- The first mixer's weight block is the whole weight. -/
theorem weight_a (c : Dev nD) (t : Fin cfg0.N) (d : Fin 1024) (k : Fin 2048) :
    (iblk m c 2 t : FVec Ideal S1024x2048 .bf16) (ix2 d k)
      = (m ((c : Thread nD τ).loc main_arg2) : FVec Ideal S1x1024x2048 .f32) (ix3 0 d k) := by
  have hN : t.val < 64 := t.isLt.trans_eq N_0
  blk_simp [iblk, V]
  rw [show (win0_2.blk t).view.emb (ix2 d k) = ix2 d k from by blk_ext [idx t]]
  after_reads_at

/-- The second mixer's weight block is the whole weight. -/
theorem weight_b (c : Dev nD) (t : Fin cfg0.N) (d : Fin 1024) (k : Fin 2048) :
    (iblk m c 3 t : FVec Ideal S1024x2048 .bf16) (ix2 d k)
      = (m ((c : Thread nD τ).loc main_arg3) : FVec Ideal S1x1024x2048 .f32) (ix3 0 d k) := by
  have hN : t.val < 64 := t.isLt.trans_eq N_0
  blk_simp [iblk, V]
  rw [show (win0_3.blk t).view.emb (ix2 d k) = ix2 d k from by blk_ext [idx t]]
  after_reads_at

/-- The out projection's weight block is the whole weight. -/
theorem weight_o (c : Dev nD) (t : Fin cfg0.N) (d : Fin 2048) (k : Fin 2048) :
    (iblk m c 6 t : FVec Ideal S2048x2048 .bf16) (ix2 d k)
      = (m ((c : Thread nD τ).loc main_arg5) : FVec Ideal S1x2048x2048 .f32) (ix3 0 d k) := by
  have hN : t.val < 64 := t.isLt.trans_eq N_0
  blk_simp [iblk, V]
  rw [show (win0_6.blk t).view.emb (ix2 d k) = ix2 d k from by blk_ext [idx t]]
  after_reads_at

/-- The block holds the third sixth of the batch's modulation. -/
theorem mod_gate (c : Dev nD) (t : Fin cfg0.N) (k : Fin 2048) (b : Fin 8) (hb : b.val = t.val / 8) :
    (iblk m c 8 t : FVec Ideal S1x1x2048 .f32) (ix3 0 0 k)
      = (m ((c : Thread nD τ).loc main_arg7) : FVec Ideal S8x12288 .f32) (ix2 b ⟨4096 + k.val, by omega⟩) := by
  have hN : t.val < 64 := t.isLt.trans_eq N_0
  blk_simp [iblk, V]
  rw [show (win0_8.blk t).view.emb (ix3 0 0 k) = ix3 (⟨t.val / 8 * 6 + 2, by omega⟩ : Fin 48) (0 : Fin 1) k from by blk_ext [idx t]]
  after_reads_at
  exact congrArg (m (c, Proc.tc.devRef main_arg7)) (by congr 1 <;> exact Fin.ext (by first | omega | (dsimp only; omega) | rfl))

/-- The block holds the fourth sixth of the batch's modulation. -/
theorem mod_shift (c : Dev nD) (t : Fin cfg0.N) (k : Fin 2048) (b : Fin 8) (hb : b.val = t.val / 8) :
    (iblk m c 10 t : FVec Ideal S1x1x2048 .f32) (ix3 0 0 k)
      = (m ((c : Thread nD τ).loc main_arg7) : FVec Ideal S8x12288 .f32) (ix2 b ⟨6144 + k.val, by omega⟩) := by
  have hN : t.val < 64 := t.isLt.trans_eq N_0
  blk_simp [iblk, V]
  rw [show (win0_10.blk t).view.emb (ix3 0 0 k) = ix3 (⟨t.val / 8 * 6 + 3, by omega⟩ : Fin 48) (0 : Fin 1) k from by blk_ext [idx t]]
  after_reads_at
  exact congrArg (m (c, Proc.tc.devRef main_arg7)) (by congr 1 <;> exact Fin.ext (by first | omega | (dsimp only; omega) | rfl))

/-- The block holds the fifth sixth of the batch's modulation. -/
theorem mod_scale (c : Dev nD) (t : Fin cfg0.N) (k : Fin 2048) (b : Fin 8) (hb : b.val = t.val / 8) :
    (iblk m c 11 t : FVec Ideal S1x1x2048 .f32) (ix3 0 0 k)
      = (m ((c : Thread nD τ).loc main_arg7) : FVec Ideal S8x12288 .f32) (ix2 b ⟨8192 + k.val, by omega⟩) := by
  have hN : t.val < 64 := t.isLt.trans_eq N_0
  blk_simp [iblk, V]
  rw [show (win0_11.blk t).view.emb (ix3 0 0 k) = ix3 (⟨t.val / 8 * 6 + 4, by omega⟩ : Fin 48) (0 : Fin 1) k from by blk_ext [idx t]]
  after_reads_at
  exact congrArg (m (c, Proc.tc.devRef main_arg7)) (by congr 1 <;> exact Fin.ext (by first | omega | (dsimp only; omega) | rfl))

/-- The gated sum computed from the blocks of a point is the gated sum of the arguments. -/
theorem mix_eq (c : Dev nD) (t : Fin cfg0.N) (r : Fin 256) (k : Fin 2048) (b : Fin 8) (q : Fin 2048)
    (hb : b.val = t.val / 8) (hq : q.val = t.val % 8 * 256 + r.val) :
    mix (iblk m c 0 t) (iblk m c 2 t) (iblk m c 1 t) (iblk m c 3 t) (iblk m c 4 t) (iblk m c 5 t) r k
      = mixed (m ((c : Thread nD τ).loc main_arg0)) (m ((c : Thread nD τ).loc main_arg1))
          (m ((c : Thread nD τ).loc main_arg2)) (m ((c : Thread nD τ).loc main_arg3)) (m ((c : Thread nD τ).loc main_arg4)) b q k := by
  unfold mix mixed
  refine congrArg₂ (· + ·) (congrArg₂ (· * ·) (congrArg Ideal.logistic (gate_a m c t r k b q hb hq)) ?_)
    (congrArg₂ (· * ·) (congrArg Ideal.logistic (gate_b m c t r k b q hb hq)) ?_)
  · exact Finset.sum_congr rfl fun d _ => congrArg₂ (· * ·) (mixer_a m c t r d b q hb hq) (weight_a m c t d k)
  · exact Finset.sum_congr rfl fun d _ => congrArg₂ (· * ·) (mixer_b m c t r d b q hb hq) (weight_b m c t d k)

/-- The residual row computed from the blocks of a point is the residual of the arguments. -/
theorem resid_eq (c : Dev nD) (t : Fin cfg0.N) (r : Fin 256) (b : Fin 8) (q : Fin 2048)
    (hb : b.val = t.val / 8) (hq : q.val = t.val % 8 * 256 + r.val) :
    resid (iblk m c 0 t) (iblk m c 2 t) (iblk m c 1 t) (iblk m c 3 t) (iblk m c 4 t) (iblk m c 5 t) (iblk m c 6 t)
          (iblk m c 7 t) (iblk m c 8 t) r = resOf m c b q := by
  funext n
  unfold resid resOf res
  refine congrArg₂ (· + ·) (input m c t r n b q hb hq) (congrArg₂ (· * ·) (mod_gate m c t n b hb) ?_)
  exact Finset.sum_congr rfl fun k _ => congrArg₂ (· * ·) (mix_eq m c t r k b q hb hq) (weight_o m c t k n)

/-- The first result at a flattened row and a column: the residual. -/
def first (c : Dev nD) (r : Fin 16384) (n : Fin 2048) : EReal :=
  resOf m c ⟨r.val / 2048, by omega⟩ ⟨r.val % 2048, by omega⟩ n

/-- The second: the modulated norm of the residual row, the scale being the fifth sixth of the batch's modulation and the
    shift the fourth. -/
def second (c : Dev nD) (r : Fin 16384) (n : Fin 2048) : EReal :=
  mnorm (resOf m c ⟨r.val / 2048, by omega⟩ ⟨r.val % 2048, by omega⟩)
    ((m ((c : Thread nD τ).loc main_arg8) : FVec Ideal S1x2048 .f32) (ix2 0 n))
    ((m ((c : Thread nD τ).loc main_arg7) : FVec Ideal S8x12288 .f32) (ix2 ⟨r.val / 2048, by omega⟩ ⟨8192 + n.val, by omega⟩))
    ((m ((c : Thread nD τ).loc main_arg7) : FVec Ideal S8x12288 .f32) (ix2 ⟨r.val / 2048, by omega⟩ ⟨6144 + n.val, by omega⟩)) n

/-- The first result array after the run. -/
theorem array_first (c : Dev nD) : (dats m 0 c).arrAt 12 cfg0.N = fun i : S16384x2048.Idx => first m c (i 0) (i 1) := by
  refine (dats m 0 c).arrAt_eq_of_covers 12 (fun i : S16384x2048.Idx => first m c (i 0) (i 1)) (by decide +kernel) (fun t hf y => ?_) ?_
  · obtain ⟨r, n, rfl⟩ : ∃ (r : Fin 256) (n : Fin 2048), y = ix2 r n := ⟨y 0, y 1, eq_ix2 y⟩
    have hN : t.val < 64 := t.isLt.trans_eq N_0
    blk_simp
    rw [show (win0_12.blk t).view.emb (ix2 r n) = ix2 (⟨t.val * 256 + r.val, by omega⟩ : Fin 16384) n from by blk_ext [idx t]]
    refine (out_resid m c t r n).trans (congrFun (resid_eq m c t r _ _ ?_ ?_) n)
    · show (t.val * 256 + r.val) / 2048 = _
      omega
    · show (t.val * 256 + r.val) % 2048 = _
      omega
  · exact Memref.isWhole_whole main_v28_0

/-- The second result array after the run. -/
theorem array_second (c : Dev nD) : (dats m 0 c).arrAt 13 cfg0.N = fun i : S16384x2048.Idx => second m c (i 0) (i 1) := by
  refine (dats m 0 c).arrAt_eq_of_covers 13 (fun i : S16384x2048.Idx => second m c (i 0) (i 1)) (by decide +kernel) (fun t hf y => ?_)
    (Memref.isWhole_whole main_v28_1)
  obtain ⟨r, n, rfl⟩ : ∃ (r : Fin 256) (n : Fin 2048), y = ix2 r n := ⟨y 0, y 1, eq_ix2 y⟩
  have hN : t.val < 64 := t.isLt.trans_eq N_0
  have hb : (⟨(t.val * 256 + r.val) / 2048, by omega⟩ : Fin 8).val = t.val / 8 := by
    show (t.val * 256 + r.val) / 2048 = _
    omega
  blk_simp
  rw [show (win0_13.blk t).view.emb (ix2 r n) = ix2 (⟨t.val * 256 + r.val, by omega⟩ : Fin 16384) n from by blk_ext [idx t]]
  refine (out_norm m c t r n).trans ?_
  rw [resid_eq m c t r ⟨(t.val * 256 + r.val) / 2048, by omega⟩ ⟨(t.val * 256 + r.val) % 2048, by omega⟩ hb
      (by show (t.val * 256 + r.val) % 2048 = _; omega),
    mod_scale m c t n _ hb, mod_shift m c t n _ hb,
    show (iblk m c 9 t : FVec Ideal S1x2048 .f32) (ix2 0 n)
      = (m ((c : Thread nD τ).loc main_arg8) : FVec Ideal S1x2048 .f32) (ix2 0 n) from by blk_ext! [iblk, V, idx t]]
  rfl

end Cert.MopIdeal.Block
-- ==== Proof.MopEq.lean ====
/- The merge and out-projection kernel's two result arrays equal the reference's: the residual and its modulated norm. -/
module

public import proofs.«01_k».proof.Defs
public import proofs.«01_k».proof.Proof.MopArray
public import proofs.«01_k».proof.Proof.Gen.MopRefIdeal.Run
public import Idealize.ShloMosaic.Lib.Tactic.CleanTypes

@[expose] public section

set_option maxRecDepth 16384

noncomputable section

namespace Cert.Proof

open Idealize.ShloMosaic Idealize.SL.Sem

/-- The kernel's and the reference's results are equal on memories that agree on the arguments. -/
theorem mop_equal : algebraic_MopIdeal_MopRefIdeal := by
  intro m ρ m' ρ' _ hagree
  refine ⟨_, _, Cert.MopIdeal.Value.run_blocks (F := Ideal) m ρ, ?_⟩
  refine (θ_run Cert.MopRefIdeal.defs _ _).mono (fun _ h c => ⟨?_, ?_, (h c).2.2⟩) (Cert.MopRefIdeal.Value.run (F := Ideal) m' ρ')
  · rw [(h c).1, Cert.MopIdeal.Block.array_first]
    simp only [hagree c]
    clean_types
    funext i
    pointwise [Cert.MopIdeal.Block.first, Cert.MopIdeal.Block.resOf, Cert.MopIdeal.Block.res, Cert.MopIdeal.Block.mixed]
    simp only [Ideal.logistic]
    blk_point []
  · rw [(h c).2.1, Cert.MopIdeal.Block.array_second]
    unfold Cert.MopRefIdeal.Value.res_main_v50
    simp only [hagree c]
    clean_types
    funext i
    pointwise [Cert.MopIdeal.Block.second, Cert.MopIdeal.Block.mnorm, Cert.MopIdeal.Block.resOf, Cert.MopIdeal.Block.res, Cert.MopIdeal.Block.mixed]
    simp only [Ideal.logistic]
    blk_point []

end Cert.Proof
-- ==== Proof.InpBlock.lean ====
/- What one grid point of the input projection computes, read at an index over the extended reals.  The grid visits, for each
   band of 1024 rows, ten stretches of 1024 columns; the first point of a band computes the modulated norm of the band's
   rows, every point projects those rows on its stretch of columns. -/
module

public import proofs.«01_k».proof.Proof.Gen.InpIdeal.Value
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.InpIdeal.Block

open Cert.InpIdeal Cert.InpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The modulated norm of a row of the block at row `r` and column `n`. -/
def mnorm (x : FVec Ideal S1024x2048 .f32) (g : FVec Ideal S1x2048 .f32) (sh sc : FVec Ideal S1x1x2048 .f32)
    (r : Fin 1024) (n : Fin 2048) : EReal :=
  x (ix2 r n) * Ideal.rsqrt (Ideal.div (∑ k : Fin 2048, x (ix2 r k) * x (ix2 r k)) (Ideal.ofBits .f32 0x45000000#32)
      + Ideal.ofBits .f32 0x358637BD#32) * g (ix2 0 n) * (1 + sc (ix3 0 0 n)) + sh (ix3 0 0 n)

/-- A row projected on a column of the stretch. -/
def proj (h : FVec Ideal S1024x2048 .bf16) (w : FVec Ideal S1024x2048 .bf16) (r n : Fin 1024) : EReal :=
  ∑ d : Fin 2048, h (ix2 r d) * w (ix2 n d)

/-- The first point of a band leaves the modulated norm of the band's rows. -/
theorem h_first (c : Dev nD) (t : Fin cfg0.N) (h : t.val % 10 = 0) (r : Fin 1024) (n : Fin 2048) :
    (outsAt0 m c t.val t.isLt).2.2 (ix2 r n) = mnorm (iblk m c 0 t) (iblk m c 1 t) (iblk m c 2 t) (iblk m c 3 t) r n := by
  rw [outsAt0_A m c t h (by omega) (by omega)]
  frame_out
  unfold_payloads
  pointwise [mnorm]

/-- A later point of the band keeps them. -/
theorem h_step (c : Dev nD) (t : Fin cfg0.N) (h : ¬ t.val % 10 = 0) (y : S1024x2048.Idx) :
    (outsAt0 m c t.val t.isLt).2.2 y = (outsAt0 m c (t.val - 1) (Nat.lt_of_le_of_lt (Nat.sub_le _ _) t.isLt)).2.2 y := by
  by_cases h9 : t.val % 10 = 9
  · rw [outsAt0_C m c t h (by omega) h9]
    rfl
  · rw [outsAt0_B m c t h (by omega) h9]
    rfl

/-- Every point projects the rows then held. -/
theorem out_proj (c : Dev nD) (t : Fin cfg0.N) (r n : Fin 1024) :
    (outsAt0 m c t.val t.isLt).1 (ix2 r n) = proj (outsAt0 m c t.val t.isLt).2.2 (iblk m c 4 t) r n := by
  by_cases h : t.val % 10 = 0
  · have e := fun k => h_first m c t h r k
    unfold proj
    simp only [e]
    rw [outsAt0_A m c t h (by omega) (by omega)]
    frame_out
    unfold_payloads
    pointwise [mnorm]
  · have e : (outsAt0 m c t.val t.isLt).2.2 = _ := funext (h_step m c t h)
    rw [e]
    by_cases h9 : t.val % 10 = 9
    · rw [outsAt0_C m c t h (by omega) h9]
      generalize (outsAt0 m c (t.val - 1) (Nat.lt_of_le_of_lt (Nat.sub_le _ _) t.isLt)).2.2 = acc
      frame_out
      unfold_payloads
      simp only [read_unread_whole]
      pointwise [proj]
    · rw [outsAt0_B m c t h (by omega) h9]
      generalize (outsAt0 m c (t.val - 1) (Nat.lt_of_le_of_lt (Nat.sub_le _ _) t.isLt)).2.2 = acc
      frame_out
      unfold_payloads
      simp only [read_unread_whole]
      pointwise [proj]

/-- The last point of a band also leaves the last 512 columns of its stretch. -/
theorem out_small (c : Dev nD) (t : Fin cfg0.N) (h : t.val % 10 = 9) (r : Fin 1024) (n : Fin 512) :
    (outsAt0 m c t.val t.isLt).2.1 (ix2 r n)
      = proj (outsAt0 m c t.val t.isLt).2.2 (iblk m c 4 t) r ⟨512 + n.val, by omega⟩ := by
  have e : (outsAt0 m c t.val t.isLt).2.2 = _ := funext (h_step m c t (by omega))
  rw [e, outsAt0_C m c t (by omega) (by omega) h]
  generalize (outsAt0 m c (t.val - 1) (Nat.lt_of_le_of_lt (Nat.sub_le _ _) t.isLt)).2.2 = acc
  frame_out
  unfold_payloads
  simp only [read_unread_whole]
  pointwise [proj]

/-- The rows held at a point are the modulated norm that the band's first point computed. -/
theorem h_held (c : Dev nD) (t : Fin cfg0.N) (r : Fin 1024) (n : Fin 2048) (u : Fin cfg0.N) (hu : u.val = 10 * (t.val / 10)) :
    (outsAt0 m c t.val t.isLt).2.2 (ix2 r n) = mnorm (iblk m c 0 u) (iblk m c 1 u) (iblk m c 2 u) (iblk m c 3 u) r n := by
  induction hk : t.val % 10 generalizing t with
  | zero =>
    obtain rfl : t = u := Fin.ext (by omega)
    exact h_first m c t hk r n
  | succ k ih =>
    rw [h_step m c t (by omega)]
    exact ih ⟨t.val - 1, by omega⟩ (by show u.val = 10 * ((t.val - 1) / 10); omega) (by show (t.val - 1) % 10 = k; omega)

end Cert.InpIdeal.Block
-- ==== Proof.InpArray.lean ====
/- What the two result arrays of the input projection kernel hold after the run, over the extended reals: the modulated
   norm of the input's rows projected on the weight's columns in the launch's order. -/
module

public import proofs.«01_k».proof.Proof.InpBlock
public import Idealize.ShloMosaic.Lib.Pipeline.ValueKit.Point
public import Idealize.ShloMosaic.Lib.StableHlo.ReadAt

@[expose] public section

set_option maxRecDepth 16384

noncomputable section

namespace Cert.InpIdeal.Block

open Cert.InpIdeal Cert.InpIdeal.Gen Idealize.ShloMosaic Idealize.ShloMosaic.TcCoe Idealize.SL.Sem
open Idealize.ShloMosaic.Pipeline (Dat)

/-- The weight of the launch's column `j` at depth `d`. The launch holds the projection's columns in the order: the
    recurrent mixer's wide heads, the queries, the gates of the merge, the keys and values group by group, the recurrent
    mixer's narrow heads, the gates of the attention branches, and zeros. -/
def wcol (w : FVec Ideal S1x2048x10064 .f32) (d : Fin 2048) (j : Fin 10240) : EReal :=
  if h : j.val < 3072 then w (ix3 0 d ⟨j.val, by omega⟩)
  else if h : j.val - 3072 < 1024 then w (ix3 0 d ⟨3360 + (j.val - 3072), by omega⟩)
  else if h : j.val - 3072 - 1024 < 4096 then w (ix3 0 d ⟨5968 + (j.val - 3072 - 1024), by omega⟩)
  else if h : j.val - 3072 - 1024 - 4096 < 1536 then
    w (ix3 0 d ⟨4384 + ((j.val - 3072 - 1024 - 4096) / 128 % 3 * 512 + (j.val - 3072 - 1024 - 4096) / 64 % 2 * 256
      + (j.val - 3072 - 1024 - 4096) / 384 * 64 + (j.val - 3072 - 1024 - 4096) % 64), by omega⟩)
  else if h : j.val - 3072 - 1024 - 4096 - 1536 < 288 then w (ix3 0 d ⟨3072 + (j.val - 3072 - 1024 - 4096 - 1536), by omega⟩)
  else if h : j.val - 3072 - 1024 - 4096 - 1536 - 288 < 48 then w (ix3 0 d ⟨5920 + (j.val - 3072 - 1024 - 4096 - 1536 - 288), by omega⟩)
  else 0

/-- The modulated norm of row `q` of batch `b` at column `n`: the scale is the second sixth of the batch's modulation, the
    shift the first. -/
def normed (x : FVec Ideal S8x2048x2048 .f32) (g : FVec Ideal S1x2048 .f32) (md : FVec Ideal S8x12288 .f32) (b : Fin 8)
    (q n : Fin 2048) : EReal :=
  x (ix3 b q n) * Ideal.rsqrt (Ideal.div (∑ k : Fin 2048, x (ix3 b q k) * x (ix3 b q k)) (Ideal.ofBits .f32 0x45000000#32)
      + Ideal.ofBits .f32 0x358637BD#32) * g (ix2 0 n) * (1 + md (ix2 b ⟨2048 + n.val, by omega⟩)) + md (ix2 b ⟨n.val, by omega⟩)

/-- The projection of a flattened row on the launch's column `j`. -/
def projected (x : FVec Ideal S8x2048x2048 .f32) (g : FVec Ideal S1x2048 .f32) (md : FVec Ideal S8x12288 .f32)
    (w : FVec Ideal S1x2048x10064 .f32) (r : Fin 16384) (j : Fin 10240) : EReal :=
  ∑ d : Fin 2048, normed x g md ⟨r.val / 2048, by omega⟩ ⟨r.val % 2048, by omega⟩ d * wcol w d j

variable (m : (ℓ : Loc nD τ sig) → Buf (Elt Ideal) ℓ) (ρ : Dev nD → PrngReg)

/-- Which block of its array each window shows at each point. -/
theorem idx : ∀ t : Fin cfg0.N,
    win0_0.index t = ![t.val / 10, 0] ∧ win0_1.index t = ![0, 0] ∧ win0_2.index t = ![t.val / 10 / 2 * 6 + 0, 0, 0]
      ∧ win0_3.index t = ![t.val / 10 / 2 * 6 + 1, 0, 0] ∧ win0_4.index t = ![t.val % 10, 0]
      ∧ win0_5.index t = ![t.val / 10, t.val % 10] ∧ win0_6.index t = ![t.val / 10, 0] :=
  (by decide +kernel : ∀ t : Fin grid0.N, _)

/-- The keys and values regrouped: which column of the projection stands at place `a` of the regrouped stretch. -/
theorem regroup (x : FVec Ideal S1536x2048 .f32) (a : Fin 1536) (d : Fin 2048) :
    shapeCast S1536x2048 (transpose S4x3x2x64x2048 [2, 0, 1, 3, 4]
      (shapeCast S3x2x4x64x2048 x shapeCasts_S1536x2048_S3x2x4x64x2048)
        transposes_S3x2x4x64x2048_S4x3x2x64x2048_2_0_1_3_4) shapeCasts_S4x3x2x64x2048_S1536x2048 (ix2 a d)
      = x (ix2 ⟨a.val / 128 % 3 * 512 + a.val / 64 % 2 * 256 + a.val / 384 * 64 + a.val % 64, by omega⟩ d) := by
  pointwise

/-- The weight's block holds the launch's columns of the point's stretch. -/
theorem weight (c : Dev nD) (t : Fin cfg0.N) (n : Fin 1024) (d : Fin 2048) (j : Fin 10240) (hj : j.val = t.val % 10 * 1024 + n.val) :
    (iblk m c 4 t : FVec Ideal S1024x2048 .bf16) (ix2 n d)
      = wcol (m ((c : Thread nD τ).loc main_arg3) : FVec Ideal S1x2048x10064 .f32) d j := by
  have hN : t.val < 160 := t.isLt.trans_eq N_0
  blk_simp [iblk, V]
  rw [show (win0_4.blk t).view.emb (ix2 n d) = ix2 j d from by blk_ext [idx t]]
  after_reads_simp
  pointwise
  unfold wcol
  split_ifs
  all_goals first
    | exact absurd rfl ‹¬ (0 : Fin 1).val = (0 : Fin 1).val›
    | skip
  · after_reads_at
  · after_reads_at
  · after_reads_at
  · after_reads_simp
    refine (regroup _ _ _).trans ?_
    pointwise
  · after_reads_at
  · after_reads_at
  · after_reads_at

/-- The rows a band holds are the modulated norm of the band's rows. -/
theorem held (c : Dev nD) (t : Fin cfg0.N) (r : Fin 1024) (n : Fin 2048) (b : Fin 8) (q : Fin 2048)
    (hb : b.val = t.val / 20) (hq : q.val = t.val / 10 % 2 * 1024 + r.val) :
    (outsAt0 m c t.val t.isLt).2.2 (ix2 r n) = normed (m ((c : Thread nD τ).loc main_arg0))
      (m ((c : Thread nD τ).loc main_arg1)) (m ((c : Thread nD τ).loc main_arg2)) b q n := by
  have hN : t.val < 160 := t.isLt.trans_eq N_0
  have hu : 10 * (t.val / 10) < cfg0.N := lt_of_le_of_lt (by omega : 10 * (t.val / 10) ≤ t.val) t.isLt
  refine (h_held m c t r n ⟨10 * (t.val / 10), hu⟩ rfl).trans ?_
  unfold mnorm normed
  blk_point [iblk, V, idx ⟨10 * (t.val / 10), hu⟩]

/-- The projection a point computes from the rows held and its stretch of columns. -/
theorem proj_eq (c : Dev nD) (t : Fin cfg0.N) (l : Fin 1024) (n : Fin 1024) (r : Fin 16384) (j : Fin 10240)
    (hr : r.val = t.val / 10 * 1024 + l.val) (hj : j.val = t.val % 10 * 1024 + n.val) :
    proj (outsAt0 m c t.val t.isLt).2.2 (iblk m c 4 t) l n = projected (m ((c : Thread nD τ).loc main_arg0))
      (m ((c : Thread nD τ).loc main_arg1)) (m ((c : Thread nD τ).loc main_arg2)) (m ((c : Thread nD τ).loc main_arg3)) r j := by
  have hN : t.val < 160 := t.isLt.trans_eq N_0
  unfold proj projected
  refine Finset.sum_congr rfl fun d _ => congrArg₂ (· * ·) (held m c t l d _ _ ?_ ?_) (weight m c t n d j hj)
  · show r.val / 2048 = _
    omega
  · show r.val % 2048 = _
    omega

/-- The first result array after the run: every row projected on every column of the launch. -/
theorem array_wide (c : Dev nD) : Value.G5 m c = fun i =>
    projected (m ((c : Thread nD τ).loc main_arg0)) (m ((c : Thread nD τ).loc main_arg1)) (m ((c : Thread nD τ).loc main_arg2))
      (m ((c : Thread nD τ).loc main_arg3)) (i 0) (i 1) := by
  funext i
  obtain ⟨r, j, rfl⟩ : ∃ (r : Fin 16384) (j : Fin 10240), i = ix2 r j := ⟨i 0, i 1, eq_ix2 i⟩
  have hp : Value.pt5Of (ix2 r j) = 10 * (r.val / 1024) + j.val / 1024 := by
    show 10 * (r.val / 1024 - 0) + 1 * (j.val / 1024 - 0) = _
    omega
  have hN : Value.pt5Of (ix2 r j) < cfg0.N := by
    rw [hp, show cfg0.N = 160 from N_0]; omega
  unfold Value.G5
  rw [dif_pos hN, ← Value.outsAt0_sweep m c _ hN]
  have hl : Value.loc5Of (ix2 r j) = ix2 (⟨r.val % 1024, by omega⟩ : Fin 1024) (⟨j.val % 1024, by omega⟩ : Fin 1024) := eq_ix2 _
  rw [hl]
  refine (out_proj m c ⟨_, hN⟩ _ _).trans (proj_eq m c ⟨_, hN⟩ _ _ r j ?_ ?_)
  · show r.val = Value.pt5Of (ix2 r j) / 10 * 1024 + r.val % 1024
    omega
  · show j.val = Value.pt5Of (ix2 r j) % 10 * 1024 + j.val % 1024
    omega

/-- The second: every row projected on the launch's last 512 columns. -/
theorem array_narrow (c : Dev nD) : Value.G6 m c = fun i =>
    projected (m ((c : Thread nD τ).loc main_arg0)) (m ((c : Thread nD τ).loc main_arg1)) (m ((c : Thread nD τ).loc main_arg2))
      (m ((c : Thread nD τ).loc main_arg3)) (i 0) ⟨9728 + (i 1).val, by have : (i 1).val < 512 := (i 1).isLt; omega⟩ := by
  funext i
  obtain ⟨r, j, rfl⟩ : ∃ (r : Fin 16384) (j : Fin 512), i = ix2 r j := ⟨i 0, i 1, eq_ix2 i⟩
  have hp : Value.pt6Of (ix2 r j) = 10 * (r.val / 1024) + 9 := by
    show 10 * (1 * (r.val / 1024 - 0) + 1 * (j.val / 512 - 0)) + 9 = _
    omega
  have hN : Value.pt6Of (ix2 r j) < cfg0.N := by
    rw [hp, show cfg0.N = 160 from N_0]; omega
  unfold Value.G6
  rw [dif_pos hN, ← Value.outsAt0_sweep m c _ hN]
  have hl : Value.loc6Of (ix2 r j) = ix2 (⟨r.val % 1024, by omega⟩ : Fin 1024) (⟨j.val % 512, by omega⟩ : Fin 512) := eq_ix2 _
  rw [hl]
  refine (out_small m c ⟨_, hN⟩ (by show Value.pt6Of (ix2 r j) % 10 = 9; omega) _ _).trans
    (proj_eq m c ⟨_, hN⟩ _ _ r _ ?_ ?_)
  · show r.val = Value.pt6Of (ix2 r j) / 10 * 1024 + r.val % 1024
    omega
  · show 9728 + j.val = Value.pt6Of (ix2 r j) % 10 * 1024 + (512 + j.val % 512)
    omega

end Cert.InpIdeal.Block
-- ==== Proof.InpRef.lean ====
/- What the input projection's reference computes, read at an index over the extended reals: the modulated norm projected
   on the weight's columns, arranged in the launch's order. -/
module

public import proofs.«01_k».proof.Proof.InpArray
public import proofs.«01_k».proof.Proof.Gen.InpRefIdeal.Run

@[expose] public section

set_option maxRecDepth 16384

noncomputable section

namespace Cert.InpRefIdeal.Block

open Cert.InpRefIdeal Cert.InpRefIdeal.Gen Idealize.ShloMosaic Idealize.ShloMosaic.TcCoe Idealize.SL.Sem
open Cert.InpIdeal.Block (normed projected wcol)

/-- The projection of every flattened row, its columns in the weight's order. -/
def plain (x : FVec Ideal S8x2048x2048 .f32) (g : FVec Ideal S1x2048 .f32) (md : FVec Ideal S8x12288 .f32)
    (w : FVec Ideal S1x2048x10064 .f32) : FVec Ideal S16384x10064 .f32 :=
  shapeCast S16384x10064 (Host.dotGeneral dot_S8x2048x2048_S2048x10064_S8x2048x10064_2_0_01_1_n_n none (addf (mulf (mulf
      (mulf x (broadcastInDim S8x2048x2048 ![0, 1, 2] bcast_S8x2048x1_S8x2048x2048_0_1_2 (Host.rsqrt (addf (Host.divf
      (broadcastInDim S8x2048x1 ![0, 1] bcast_S8x2048_S8x2048x1_0_1 (Host.reduceAdd (mulf x x) (constant S_ .f32
      0x00000000#32) reducesTo_S8x2048x2048_S8x2048_d2 h_S_)) (broadcastInDim S8x2048x1 ![] bcast_S_S8x2048x1 (constant S_
      .f32 0x45000000#32))) (broadcastInDim S8x2048x1 ![] bcast_S_S8x2048x1 (constant S_ .f32 0x358637BD#32))))))
      (broadcastInDim S8x2048x2048 ![0, 1, 2] bcast_S1x1x2048_S8x2048x2048_0_1_2 (broadcastInDim S1x1x2048 ![2]
      bcast_S2048_S1x1x2048_2 (shapeCast S2048 g shapeCasts_S1x2048_S2048)))) (broadcastInDim S8x2048x2048 ![0, 1, 2]
      bcast_S8x1x2048_S8x2048x2048_0_1_2 (addf (broadcastInDim S8x1x2048 ![] bcast_S_S8x1x2048 (constant S_ .f32
      0x3F800000#32)) (extractStridedSlice S8x1x2048 ![0, 0, 2048] (broadcastInDim S8x1x12288 ![0, 2]
      bcast_S8x12288_S8x1x12288_0_2 md) slices_S8x1x12288_S8x1x2048_0_0_2048)))) (broadcastInDim S8x2048x2048 ![0, 1, 2]
      bcast_S8x1x2048_S8x2048x2048_0_1_2 (extractStridedSlice S8x1x2048 ![0, 0, 0] (broadcastInDim S8x1x12288 ![0, 2]
      bcast_S8x12288_S8x1x12288_0_2 md) slices_S8x1x12288_S8x1x2048_0_0_0))) (shapeCast S2048x10064 w
      shapeCasts_S1x2048x10064_S2048x10064)) shapeCasts_S8x2048x10064_S16384x10064

/-- The narrow columns of a projection, and zeros. -/
def narrow (p : FVec Ideal S16384x10064 .f32) : FVec Ideal S16384x512 .f32 :=
  concatenate S16384x512 1
    [⟨S16384x288, extractStridedSlice S16384x288 ![0, 3072] p slices_S16384x10064_S16384x288_0_3072⟩,
      ⟨S16384x48, extractStridedSlice S16384x48 ![0, 5920] p slices_S16384x10064_S16384x48_0_5920⟩,
      ⟨S16384x176, broadcastInDim S16384x176 ![] bcast_S_S16384x176 (constant S_ .f32 0x00000000#32)⟩]
    concatenates_S16384x288_S16384x48_S16384x176_S16384x512_d1

/-- The columns of a projection arranged in the launch's order. -/
def arranged (p : FVec Ideal S16384x10064 .f32) : FVec Ideal S16384x10240 .f32 :=
  concatenate S16384x10240 1
    [⟨S16384x3072, extractStridedSlice S16384x3072 ![0, 0] p slices_S16384x10064_S16384x3072_0_0⟩,
      ⟨S16384x1024, extractStridedSlice S16384x1024 ![0, 3360] p slices_S16384x10064_S16384x1024_0_3360⟩,
      ⟨S16384x4096, extractStridedSlice S16384x4096 ![0, 5968] p slices_S16384x10064_S16384x4096_0_5968⟩,
      ⟨S16384x1536, shapeCast S16384x1536 (transpose S16384x4x6x64 [0, 2, 1, 3]
        (shapeCast S16384x6x4x64 (extractStridedSlice S16384x1536 ![0, 4384] p slices_S16384x10064_S16384x1536_0_4384)
          shapeCasts_S16384x1536_S16384x6x4x64) transposes_S16384x6x4x64_S16384x4x6x64_0_2_1_3)
        shapeCasts_S16384x4x6x64_S16384x1536⟩,
      ⟨S16384x512, narrow p⟩] concatenates_S16384x3072_S16384x1024_S16384x4096_S16384x1536_S16384x512_S16384x10240_d1

/-- The projection at a row and a column: the modulated norm's row times the weight's column. -/
theorem plain_at (x : FVec Ideal S8x2048x2048 .f32) (g : FVec Ideal S1x2048 .f32) (md : FVec Ideal S8x12288 .f32)
    (w : FVec Ideal S1x2048x10064 .f32) (r : Fin 16384) (n : Fin 10064) :
    plain x g md w (ix2 r n)
      = ∑ d : Fin 2048, normed x g md ⟨r.val / 2048, by omega⟩ ⟨r.val % 2048, by omega⟩ d * w (ix3 0 d n) := by
  pointwise [plain, normed]

/-- The keys and values regrouped. -/
theorem regroup (x : FVec Ideal S16384x1536 .f32) (r : Fin 16384) (a : Fin 1536) :
    shapeCast S16384x1536 (transpose S16384x4x6x64 [0, 2, 1, 3]
        (shapeCast S16384x6x4x64 x shapeCasts_S16384x1536_S16384x6x4x64) transposes_S16384x6x4x64_S16384x4x6x64_0_2_1_3)
        shapeCasts_S16384x4x6x64_S16384x1536 (ix2 r a)
      = x (ix2 r ⟨a.val / 128 % 3 * 512 + a.val / 64 % 2 * 256 + a.val / 384 * 64 + a.val % 64, by omega⟩) := by
  pointwise
  exact congrArg x (congrArg (ix2 r) (Fin.ext (by dsimp only; omega)))

/-- A weight's column is determined by its number. -/
theorem col (w : FVec Ideal S1x2048x10064 .f32) (d : Fin 2048) {n n' : Fin 10064} (h : n.val = n'.val) :
    w (ix3 0 d n) = w (ix3 0 d n') := by
  rw [Fin.ext h]

/-- Two products of one row with equal columns. -/
theorem dots {f a b : Fin 2048 → EReal} (h : ∀ d, a d = b d) : ∑ d, f d * a d = ∑ d, f d * b d :=
  Finset.sum_congr rfl fun d _ => by rw [h d]

/-- The narrow columns of a projection are its product with the launch's last 512 columns. -/
theorem narrow_of (p : FVec Ideal S16384x10064 .f32) (f : Fin 2048 → EReal) (w : FVec Ideal S1x2048x10064 .f32) (r : Fin 16384)
    (hp : ∀ n, p (ix2 r n) = ∑ d, f d * w (ix3 0 d n)) (j : Fin 512) :
    narrow p (ix2 r j) = ∑ d, f d * wcol w d ⟨9728 + j.val, by omega⟩ := by
  pointwise [narrow]
  split_ifs
  all_goals try (rename_i hh; exact absurd rfl hh)
  · refine (hp _).trans (dots fun d => ?_)
    unfold wcol
    dsimp only
    rw [dif_neg (by omega), dif_neg (by omega), dif_neg (by omega), dif_neg (by omega), dif_pos (by omega)]
    exact col w d (by dsimp only; omega)
  · refine (hp _).trans (dots fun d => ?_)
    unfold wcol
    dsimp only
    rw [dif_neg (by omega), dif_neg (by omega), dif_neg (by omega), dif_neg (by omega), dif_neg (by omega), dif_pos (by omega)]
    exact col w d (by dsimp only; omega)
  · refine (Finset.sum_eq_zero fun d _ => ?_).symm
    rw [show wcol w d ⟨9728 + j.val, by omega⟩ = 0 from by unfold wcol; dsimp only; split_ifs <;> first | omega | rfl]
    exact mul_zero _

/-- The arranged columns of a projection are its product with the launch's columns. -/
theorem arranged_of (p : FVec Ideal S16384x10064 .f32) (f : Fin 2048 → EReal) (w : FVec Ideal S1x2048x10064 .f32) (r : Fin 16384)
    (hp : ∀ n, p (ix2 r n) = ∑ d, f d * w (ix3 0 d n)) (j : Fin 10240) :
    arranged p (ix2 r j) = ∑ d, f d * wcol w d j := by
  unfold arranged
  generalize hq : extractStridedSlice S16384x1536 ![0, 4384] p slices_S16384x10064_S16384x1536_0_4384 = q
  have hq' : ∀ a : Fin 1536, q (ix2 r a) = p (ix2 r ⟨4384 + a.val, by omega⟩) := fun a => by
    rw [← hq]
    pointwise
  generalize hk : shapeCast S16384x1536 _ shapeCasts_S16384x4x6x64_S16384x1536 = k
  have hk' : ∀ a : Fin 1536, k (ix2 r a)
      = q (ix2 r ⟨a.val / 128 % 3 * 512 + a.val / 64 % 2 * 256 + a.val / 384 * 64 + a.val % 64, by omega⟩) := fun a => by
    rw [← hk]
    exact regroup q r a
  pointwise
  split_ifs
  all_goals try (rename_i hh; exact absurd rfl hh)
  · refine (hp _).trans (dots fun d => ?_)
    unfold wcol
    split_ifs <;> first | omega | exact col w d (by dsimp only)
  · refine (hp _).trans (dots fun d => ?_)
    unfold wcol
    split_ifs <;> first | omega | exact col w d (by dsimp only)
  · refine (hp _).trans (dots fun d => ?_)
    unfold wcol
    split_ifs <;> first | omega | exact col w d (by dsimp only)
  · refine (hk' _).trans ((hq' _).trans ((hp _).trans (dots fun d => ?_)))
    unfold wcol
    split_ifs <;> first | omega | exact col w d (by dsimp only)
  · refine (narrow_of p f w r hp _).trans (dots fun d => congrArg (wcol w d) (Fin.ext ?_))
    dsimp only
    omega

end Cert.InpRefIdeal.Block
-- ==== Proof.InpEq.lean ====
/- The input projection kernel's two result arrays equal the reference's: the modulated norm projected on the weight's
   columns, in the launch's order. -/
module

public import proofs.«01_k».proof.Defs
public import proofs.«01_k».proof.Proof.InpRef
public import Idealize.ShloMosaic.Lib.Tactic.CleanTypes

@[expose] public section

set_option maxRecDepth 16384

noncomputable section

namespace Cert.Proof

open Idealize.ShloMosaic Idealize.SL.Sem

/-- The kernel's and the reference's results are equal on memories that agree on the arguments. -/
theorem inp_equal : algebraic_InpIdeal_InpRefIdeal := by
  intro m ρ m' ρ' _ hagree
  refine ⟨_, _, Cert.InpIdeal.Value.run (F := Ideal) m ρ, ?_⟩
  refine (θ_run Cert.InpRefIdeal.defs _ _).mono (fun _ h c => ⟨?_, ?_, (h c).2.2⟩) (Cert.InpRefIdeal.Value.run (F := Ideal) m' ρ')
  · rw [(h c).1, Cert.InpIdeal.Block.array_wide]
    obtain ⟨e0, e1, e2, e3⟩ := hagree c
    refine funext fun i => ?_
    obtain ⟨r, j, rfl⟩ : ∃ (r : Fin 16384) (j : Fin 10240), i = ix2 r j := ⟨i 0, i 1, eq_ix2 i⟩
    refine (Cert.InpRefIdeal.Block.arranged_of _ _ _ r (Cert.InpRefIdeal.Block.plain_at (m' ((c.tc : Thread Cert.InpRefIdeal.nD Cert.InpRefIdeal.τ).loc Cert.InpRefIdeal.main_arg0)) (m' ((c.tc : Thread Cert.InpRefIdeal.nD Cert.InpRefIdeal.τ).loc Cert.InpRefIdeal.main_arg1))
      (m' ((c.tc : Thread Cert.InpRefIdeal.nD Cert.InpRefIdeal.τ).loc Cert.InpRefIdeal.main_arg2)) (m' ((c.tc : Thread Cert.InpRefIdeal.nD Cert.InpRefIdeal.τ).loc Cert.InpRefIdeal.main_arg3)) r) j).trans ?_
    rw [e0, e1, e2, e3]
    rfl
  · rw [(h c).2.1, Cert.InpIdeal.Block.array_narrow]
    obtain ⟨e0, e1, e2, e3⟩ := hagree c
    refine funext fun i => ?_
    obtain ⟨r, j, rfl⟩ : ∃ (r : Fin 16384) (j : Fin 512), i = ix2 r j := ⟨i 0, i 1, eq_ix2 i⟩
    refine (Cert.InpRefIdeal.Block.narrow_of _ _ _ r (Cert.InpRefIdeal.Block.plain_at (m' ((c.tc : Thread Cert.InpRefIdeal.nD Cert.InpRefIdeal.τ).loc Cert.InpRefIdeal.main_arg0)) (m' ((c.tc : Thread Cert.InpRefIdeal.nD Cert.InpRefIdeal.τ).loc Cert.InpRefIdeal.main_arg1))
      (m' ((c.tc : Thread Cert.InpRefIdeal.nD Cert.InpRefIdeal.τ).loc Cert.InpRefIdeal.main_arg2)) (m' ((c.tc : Thread Cert.InpRefIdeal.nD Cert.InpRefIdeal.τ).loc Cert.InpRefIdeal.main_arg3)) r) j).trans ?_
    rw [e0, e1, e2, e3]
    rfl

end Cert.Proof
-- ==== Proof.AdaBlock.lean ====
/- What one grid point of the modulation kernel computes, read at an index over the extended reals: the silu of the condition
   projected on the point's 1024 columns, plus their bias. -/
module

public import proofs.«01_k».proof.Proof.Gen.AdaIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.AdaIdeal.Block

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The silu of a number. -/
def silu (x : EReal) : EReal := x * Ideal.logistic x

/-- The result block of a point: the projected silu plus the bias. -/
theorem out_block (c : Dev nD) (t : Fin cfg0.N) (b : Fin 8) (n : Fin 1024) :
    (dats m 0 c).after 3 t (ix2 b n)
      = (∑ d : Fin 2048, silu ((iblk m c 0 t : FVec Ideal S8x2048 .f32) (ix2 b d))
          * (iblk m c 1 t : FVec Ideal S2048x1024 .f32) (ix2 d n))
        + (iblk m c 2 t : FVec Ideal S1x1024 .f32) (ix2 0 n) := by
  rw [after0_3]
  frame_out
  unfold_payloads
  pointwise [silu]

end Cert.AdaIdeal.Block
-- ==== Proof.AdaArray.lean ====
/- What the result array of the modulation kernel holds after the run, over the extended reals. -/
module

public import proofs.«01_k».proof.Proof.AdaBlock
public import Idealize.ShloMosaic.Lib.Pipeline.ValueKit.Point
public import Idealize.ShloMosaic.Lib.StableHlo.ReadAt

@[expose] public section

set_option maxRecDepth 16384

noncomputable section

namespace Cert.AdaIdeal.Block

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

/-- The modulation of batch `b` at column `n`: the condition's silu times the weight's column, plus the bias. -/
def modulation (x : FVec Ideal S8x2048 .f32) (w : FVec Ideal S1x2048x12288 .f32) (s : FVec Ideal S1x12288 .f32)
    (b : Fin 8) (n : Fin 12288) : EReal :=
  (∑ d : Fin 2048, silu (x (ix2 b d)) * w (ix3 0 d n)) + s (ix2 0 n)

/-- Which block of its array each window shows at each point. -/
theorem idx : ∀ t : Fin cfg0.N,
    win0_0.index t = ![0, 0] ∧ win0_1.index t = ![0, t.val] ∧ win0_2.index t = ![0, t.val] ∧ win0_3.index t = ![0, t.val] :=
  (by decide +kernel : ∀ t : Fin grid0.N, _)

/-- The weight block of a point holds the columns of its band. -/
theorem weight (c : Dev nD) (t : Fin cfg0.N) (d : Fin 2048) (n : Fin 1024) (q : Fin 12288) (hq : q.val = t.val * 1024 + n.val) :
    (iblk m c 1 t : FVec Ideal S2048x1024 .f32) (ix2 d n)
      = (m ((c : Thread nD τ).loc main_arg1) : FVec Ideal S1x2048x12288 .f32) (ix3 0 d q) := by
  have hN : t.val < 12 := t.isLt.trans_eq N_0
  blk_simp [iblk, V]
  rw [show (win0_1.blk t).view.emb (ix2 d n) = ix2 d q from by blk_ext [idx t]]
  after_reads_at

/-- The bias block of a point holds the columns of its band. -/
theorem bias (c : Dev nD) (t : Fin cfg0.N) (n : Fin 1024) (q : Fin 12288) (hq : q.val = t.val * 1024 + n.val) :
    (iblk m c 2 t : FVec Ideal S1x1024 .f32) (ix2 0 n)
      = (m ((c : Thread nD τ).loc main_arg2) : FVec Ideal S1x12288 .f32) (ix2 0 q) := by
  have hN : t.val < 12 := t.isLt.trans_eq N_0
  blk_simp [iblk, V]
  rw [show (win0_2.blk t).view.emb (ix2 0 n) = ix2 (0 : Fin 1) q from by blk_ext [idx t]]
  after_reads_at

/-- The result array after the run. -/
theorem array (c : Dev nD) : (dats m 0 c).arrAt 3 cfg0.N = fun i : S8x12288.Idx =>
    modulation (m ((c : Thread nD τ).loc main_arg0)) (m ((c : Thread nD τ).loc main_arg1))
      (m ((c : Thread nD τ).loc main_arg2)) (i 0) (i 1) := by
  refine (dats m 0 c).arrAt_eq_of_covers 3 (fun i : S8x12288.Idx => modulation (m ((c : Thread nD τ).loc main_arg0))
    (m ((c : Thread nD τ).loc main_arg1)) (m ((c : Thread nD τ).loc main_arg2)) (i 0) (i 1))
    (by decide +kernel) (fun t hf y => ?_) (Memref.isWhole_whole main_v3)
  obtain ⟨b, n, rfl⟩ : ∃ (b : Fin 8) (n : Fin 1024), y = ix2 b n := ⟨y 0, y 1, eq_ix2 y⟩
  have hN : t.val < 12 := t.isLt.trans_eq N_0
  blk_simp
  rw [show (win0_3.blk t).view.emb (ix2 b n) = ix2 b (⟨t.val * 1024 + n.val, by omega⟩ : Fin 12288) from by blk_ext [idx t]]
  refine (out_block m c t b n).trans ?_
  refine congrArg₂ (· + ·) (Finset.sum_congr rfl fun d _ => congrArg₂ (· * ·) (congrArg silu ?_) (weight m c t d n _ rfl))
    (bias m c t n _ rfl)
  blk_ext! [iblk, V, idx t]

end Cert.AdaIdeal.Block
-- ==== Proof.AdaEq.lean ====
/- The modulation kernel's result array equals the reference's: the silu of the condition, projected, plus the bias. -/
module

public import proofs.«01_k».proof.Defs
public import proofs.«01_k».proof.Proof.AdaArray
public import proofs.«01_k».proof.Proof.Gen.AdaRefIdeal.Run
public import Idealize.ShloMosaic.Lib.Tactic.CleanTypes

@[expose] public section

set_option maxRecDepth 16384

noncomputable section

namespace Cert.Proof

open Idealize.ShloMosaic Idealize.SL.Sem

/-- The kernel's and the reference's results are equal on memories that agree on the arguments. -/
theorem ada_equal : algebraic_AdaIdeal_AdaRefIdeal := by
  intro m ρ m' ρ' _ hagree
  refine ⟨_, Cert.AdaIdeal.Value.run_blocks (F := Ideal) m ρ, ?_⟩
  refine (θ_run Cert.AdaRefIdeal.defs _ _).mono (fun _ h c => ⟨?_, (h c).2⟩) (Cert.AdaRefIdeal.Value.run (F := Ideal) m' ρ')
  rw [(h c).1, Cert.AdaIdeal.Block.array]
  simp only [hagree c]
  clean_types
  funext i
  pointwise [Cert.AdaIdeal.Block.modulation, Cert.AdaIdeal.Block.silu]
  simp only [Ideal.logistic]

end Cert.Proof
-- ==== Proof.CmpBlock.lean ====
/- What one grid point of the compression kernel computes, read at an index over the extended reals. -/
module

public import proofs.«01_k».proof.Proof.Gen.CmpIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.CmpIdeal.Block

open Cert.CmpIdeal Cert.CmpIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every sixteenth row of a block, from row `j` on. -/
def pick (X : FVec Ideal S2048x128 .f32) (j : ℕ) (hj : j < 16) : FVec Ideal S128x128 .f32 :=
  fun i => X (ix2 (⟨(i 0).val * 16 + j, by have h : (i 0).val < 128 := (i 0).isLt; omega⟩ : Fin 2048) (i 1))

/-- A load of every sixteenth row of the scratch, the whole of which was stored before, reads those rows of what was stored. -/
theorem picked (X : FVec Ideal S2048x128 .f32) (j : ℕ) (hj : j < 16) (a) (b) :
    (View.whole cc0_scratch0).readCov
        [(⟨Rect.unit (s := S2048x128) ![0, 0] ![2048, 128] a, X⟩ : View.Piece (Elt Ideal) S2048x128 .f32)]
        (⟨![j, 0], ![128, 128], ![16, 1], b⟩ : LoadRect S2048x128) = pick X j hj := by
  rw [View.readCov_eq_canon', View.canon_unit_zero (S := S2048x128) (by funext i; fin_cases i <;> rfl)]
  funext i
  refine congrArg X (funext fun k => Fin.ext ?_)
  fin_cases k
  · show j + 16 * (i 0).val = (i 0).val * 16 + j
    omega
  · show 0 + 1 * (i 1).val = (i 1).val
    omega

/-- Sixteen consecutive rows of a block side by side. -/
def gather (X : FVec Ideal S2048x128 .f32) : FVec Ideal S128x2048 .f32 :=
  fun i => X (ix2 (⟨(i 0).val * 16 + (i 1).val / 128, by
    have h : (i 0).val < 128 := (i 0).isLt
    have h' : (i 1).val < 2048 := (i 1).isLt
    omega⟩ : Fin 2048) (⟨(i 1).val % 128, by omega⟩ : Fin 128))

/-- Two indices of a block are one when their coordinates are. -/
theorem ix2_congr {a b : ℕ} {x x' : Fin a} {y y' : Fin b} (h : x.val = x'.val) (h' : y.val = y'.val) : ix2 x y = ix2 x' y' := by
  rw [Fin.ext h, Fin.ext h']

/-- The sixteen picks side by side. -/
theorem gathered (X : FVec Ideal S2048x128 .f32) :
    concatenate S128x2048 1 [⟨S128x128, pick X 0 (by omega)⟩, ⟨S128x128, pick X 1 (by omega)⟩, ⟨S128x128, pick X 2 (by omega)⟩,
      ⟨S128x128, pick X 3 (by omega)⟩, ⟨S128x128, pick X 4 (by omega)⟩, ⟨S128x128, pick X 5 (by omega)⟩,
      ⟨S128x128, pick X 6 (by omega)⟩, ⟨S128x128, pick X 7 (by omega)⟩, ⟨S128x128, pick X 8 (by omega)⟩,
      ⟨S128x128, pick X 9 (by omega)⟩, ⟨S128x128, pick X 10 (by omega)⟩, ⟨S128x128, pick X 11 (by omega)⟩,
      ⟨S128x128, pick X 12 (by omega)⟩, ⟨S128x128, pick X 13 (by omega)⟩, ⟨S128x128, pick X 14 (by omega)⟩,
      ⟨S128x128, pick X 15 (by omega)⟩]
      concatenates_S128x128_S128x128_S128x128_S128x128_S128x128_S128x128_S128x128_S128x128_S128x128_S128x128_S128x128_S128x128_S128x128_S128x128_S128x128_S128x128_S128x2048_d1 = gather X := by
  funext i
  have h : (i 1).val < 2048 := (i 1).isLt
  exact concatenate_ofFn_apply (s₁ := S128x128) 1 (fun n : Fin 16 => pick X n n.isLt) concatenates_S128x128_S128x128_S128x128_S128x128_S128x128_S128x128_S128x128_S128x128_S128x128_S128x128_S128x128_S128x128_S128x128_S128x128_S128x128_S128x128_S128x2048_d1 rfl 128 rfl i
    ⟨(i 1).val / 128, by omega⟩ rfl (ix2 (i 0) ⟨(i 1).val % 128, by omega⟩) rfl (fun b hb => by
      fin_cases b
      · rfl
      · exact absurd rfl hb)

/-- One half of what the network's first layer sums for the strip `s`: the strip's sixteen rows, the positions added, times the
weights. -/
def half (x : FVec Ideal S2048x128 .bf16) (p : FVec Ideal S1x2048 .f32) (w : FVec Ideal S2048x128 .bf16) (s n : Fin 128) : EReal :=
  ∑ e : Fin 2048, (gather x (ix2 s e) + p (ix2 0 e)) * w (ix2 e n)

/-- The activation, as the kernel spells it. -/
def act (h : EReal) : EReal :=
  Ideal.ofBits .f32 1056964608#32 * h * (1 + Ideal.tanh (Ideal.ofBits .f32 1061962282#32 * (h + Ideal.ofBits .f32 1027024659#32 * (h * h * h))))

/-- What the first layer sums for a block, which is the strip `s` and the one after it. -/
def sums (x : FVec Ideal S2048x128 .bf16) (pa pb : FVec Ideal S1x2048 .f32) (wa wb : FVec Ideal S2048x128 .bf16) (s n : Fin 128) : EReal :=
  half x pa wa s n + half x pb wb ⟨(s.val + 128 - 127) % 128, by omega⟩ n

/-- The second layer's result. -/
def comp (x : FVec Ideal S2048x128 .bf16) (pa pb : FVec Ideal S1x2048 .f32) (wa wb : FVec Ideal S2048x128 .bf16) (w : FVec Ideal S128x128 .bf16)
    (s n : Fin 128) : EReal :=
  ∑ k : Fin 128, act (sums x pa pb wa wb s k) * w (ix2 k n)

/-- The sixteen picks put through the two layers. -/
theorem layers (x : FVec Ideal S2048x128 .bf16) (pa pb : FVec Ideal S1x2048 .f32) (wa wb : FVec Ideal S2048x128 .bf16) (w : FVec Ideal S128x128 .bf16) :
    k0_pay3 (F := Ideal) (pick (k0_pay2 x) 0 (by omega)) (pick (k0_pay2 x) 1 (by omega)) (pick (k0_pay2 x) 2 (by omega)) (pick (k0_pay2 x) 3 (by omega)) (pick (k0_pay2 x) 4 (by omega)) (pick (k0_pay2 x) 5 (by omega)) (pick (k0_pay2 x) 6 (by omega)) (pick (k0_pay2 x) 7 (by omega)) (pick (k0_pay2 x) 8 (by omega)) (pick (k0_pay2 x) 9 (by omega)) (pick (k0_pay2 x) 10 (by omega)) (pick (k0_pay2 x) 11 (by omega)) (pick (k0_pay2 x) 12 (by omega)) (pick (k0_pay2 x) 13 (by omega)) (pick (k0_pay2 x) 14 (by omega)) (pick (k0_pay2 x) 15 (by omega))
      pa wa pb wb w = fun i : S128x128.Idx => comp x pa pb wa wb w (i 0) (i 1) := by
  unfold k0_pay3 comp act sums half
  dsimp only
  rw [gathered]
  have hG : gather (k0_pay2 x) = (gather x : FVec Ideal S128x2048 .f32) := by
    unfold k0_pay2
    funext i
    pointwise [gather]
  rw [hG]
  generalize gather x = G
  funext i
  obtain ⟨s, n, rfl⟩ : ∃ (s n : Fin 128), i = ix2 s n := ⟨i 0, i 1, eq_ix2 i⟩
  pointwise

/-- A choice by the lane: the first 64 lanes or the others. -/
theorem lane_select {α : Type} (n : Fin 128) (a b : α) :
    Scalar.select (IntOp.cmpi .slt (BitVec.ofNat 32 n.val) 64#32) a b = if n.val < 64 then a else b := by
  have h : ∀ n : Fin 128, IntOp.cmpi .slt (BitVec.ofNat 32 n.val) 64#32 = if n.val < 64 then 1#1 else 0#1 := by decide +kernel
  rw [h]
  split_ifs <;> rfl

/-- A choice by whether a lane lies in the same half as one of the first half. -/
theorem same_select {α : Type} (x n : Fin 128) (hn : n.val < 64) (a b : α) :
    Scalar.select (IntOp.cmpi .eq (IntOp.shrsi .vector (BitVec.ofNat 32 x.val) 6#32) (IntOp.shrsi .vector (BitVec.ofNat 32 n.val) 6#32)) a b
      = if x.val < 64 then a else b := by
  have h : ∀ n : Fin 128, IntOp.shrsi .vector (BitVec.ofNat 32 n.val) 6#32 = if n.val < 64 then 0#32 else 1#32 := by decide +kernel
  rw [h, h, if_pos hn]
  split_ifs <;> rfl

/-- The sum of the first half's squares, and of what their rounding would have left. -/
def squares (f : Fin 128 → EReal) : EReal :=
  (∑ x : Fin 128, if x.val < 64 then f x * f x else 0) + ∑ x : Fin 128, if x.val < 64 then f x * f x - f x * f x else 0

/-- The block of values: zeros in the first 64 lanes, the second layer's result in the others. -/
theorem out_values (c : Dev nD) (t : Fin cfg0.N) (s n : Fin 128) :
    (dats m 0 c).after 8 t (ix4 0 0 s n)
      = if n.val < 64 then (0 : EReal)
        else comp (iblk m c 0 t) (iblk m c 1 t) (iblk m c 2 t) (iblk m c 3 t) (iblk m c 4 t) (iblk m c 5 t) s n := by
  rw [after0_8]
  simp only [outsAt0]
  frame_out
  rw [picked _ 0 (by omega), picked _ 1 (by omega), picked _ 2 (by omega), picked _ 3 (by omega), picked _ 4 (by omega), picked _ 5 (by omega), picked _ 6 (by omega), picked _ 7 (by omega), picked _ 8 (by omega), picked _ 9 (by omega), picked _ 10 (by omega), picked _ 11 (by omega), picked _ 12 (by omega), picked _ 13 (by omega), picked _ 14 (by omega), picked _ 15 (by omega), layers]
  unfold_payloads
  pointwise
  exact lane_select n _ _

/-- The block of keys: the second layer's result in the first 64 lanes, normed and scaled, zeros in the others. -/
theorem out_keys (c : Dev nD) (t : Fin cfg0.N) (s n : Fin 128) :
    (dats m 0 c).after 7 t (ix4 0 0 s n)
      = if n.val < 64 then
          comp (iblk m c 0 t) (iblk m c 1 t) (iblk m c 2 t) (iblk m c 3 t) (iblk m c 4 t) (iblk m c 5 t) s n
            * Ideal.rsqrt (squares (comp (iblk m c 0 t) (iblk m c 1 t) (iblk m c 2 t) (iblk m c 3 t) (iblk m c 4 t) (iblk m c 5 t) s)
                * Ideal.ofBits .f32 1015021568#32 + Ideal.ofBits .f32 897988541#32)
            * (iblk m c 6 t : FVec Ideal S1x128 .f32) (ix2 0 n)
        else (0 : EReal) := by
  rw [after0_7]
  simp only [outsAt0]
  frame_out
  rw [picked _ 0 (by omega), picked _ 1 (by omega), picked _ 2 (by omega), picked _ 3 (by omega), picked _ 4 (by omega), picked _ 5 (by omega), picked _ 6 (by omega), picked _ 7 (by omega), picked _ 8 (by omega), picked _ 9 (by omega), picked _ 10 (by omega), picked _ 11 (by omega), picked _ 12 (by omega), picked _ 13 (by omega), picked _ 14 (by omega), picked _ 15 (by omega), layers]
  unfold_payloads
  pointwise
  rw [lane_select]
  split_ifs with hn
  · unfold squares
    simp only [same_select _ n hn]
  · rfl

end Cert.CmpIdeal.Block
-- ==== Proof.CmpArray.lean ====
/- What the two result arrays of the compression kernel hold after the run, over the extended reals. -/
module

public import proofs.«01_k».proof.Proof.CmpBlock
public import Idealize.ShloMosaic.Lib.Pipeline.ValueKit.Point
public import Idealize.ShloMosaic.Lib.StableHlo.ReadAt

@[expose] public section

set_option maxRecDepth 16384

noncomputable section

namespace Cert.CmpIdeal.Block

open Cert.CmpIdeal Cert.CmpIdeal.Gen Idealize.ShloMosaic Idealize.ShloMosaic.TcCoe Idealize.SL.Sem
open Idealize.ShloMosaic.Pipeline (Dat)

/-- Two triple indices with equal coordinates are equal. -/
theorem same3 {A B C : ℕ} {a a' : Fin A} {b b' : Fin B} {d d' : Fin C} (ha : a.val = a'.val) (hb : b.val = b'.val)
    (hd : d.val = d'.val) : ix3 a b d = ix3 a' b' d' := by
  rw [Fin.ext ha, Fin.ext hb, Fin.ext hd]

/-- The positions at row `r` of a block and lane `l`: the keys' in the first 64 lanes, the values' in the others. -/
def positions (pk pv : FVec Ideal S1x32x64 .f32) (r : Fin 32) (l : Fin 128) : EReal :=
  if h : l.val < 64 then pk (ix3 0 r ⟨l.val, h⟩) else pv (ix3 0 r ⟨l.val - 64, by omega⟩)

/-- The first layer's weights: the keys' and the values' on the diagonal, zeros off it. -/
def first (wk wv : FVec Ideal S1x2048x64 .f32) (r : Fin 32) (l n : Fin 128) : EReal :=
  (if h : l.val < 64 ∧ n.val < 64 then wk (ix3 0 ⟨r.val * 64 + l.val, by omega⟩ ⟨n.val, h.2⟩) else 0)
    + if h : 64 ≤ l.val ∧ 64 ≤ n.val then wv (ix3 0 ⟨r.val * 64 + (l.val - 64), by omega⟩ ⟨n.val - 64, by omega⟩) else 0

/-- The second layer's weights, likewise. -/
def second (wk wv : FVec Ideal S1x64x64 .f32) (l n : Fin 128) : EReal :=
  (if h : l.val < 64 ∧ n.val < 64 then wk (ix3 0 ⟨l.val, h.1⟩ ⟨n.val, h.2⟩) else 0)
    + if h : 64 ≤ l.val ∧ 64 ≤ n.val then wv (ix3 0 ⟨l.val - 64, by omega⟩ ⟨n.val - 64, by omega⟩) else 0

/-- Two choices with zeros for the rest are summed alike when their conditions and their values agree. -/
theorem two_parts {p q p' q' : Prop} {_ : Decidable p} {_ : Decidable q} {_ : Decidable p'} {_ : Decidable q'} {f : p → EReal} {g : q → EReal}
    {f' : p' → EReal} {g' : q' → EReal} (hp : p ↔ p') (hq : q ↔ q') (hf : ∀ h h', f h = f' h') (hg : ∀ h h', g h = g' h') :
    ((if h : p then f h else 0) + if h : q then g h else 0) = (if h : p' then f' h else 0) + if h : q' then g' h else 0 := by
  by_cases h : p <;> by_cases h' : q
  · rw [dif_pos h, dif_pos h', dif_pos (hp.mp h), dif_pos (hq.mp h'), hf h (hp.mp h), hg h' (hq.mp h')]
  · rw [dif_pos h, dif_neg h', dif_pos (hp.mp h), dif_neg (fun k => h' (hq.mpr k)), hf h (hp.mp h)]
  · rw [dif_neg h, dif_pos h', dif_neg (fun k => h (hp.mpr k)), dif_pos (hq.mp h'), hg h' (hq.mp h')]
  · rw [dif_neg h, dif_neg h', dif_neg (fun k => h (hp.mpr k)), dif_neg (fun k => h' (hq.mpr k))]

/-- The padding is zero. -/
theorem pad_zero : (FloatOps.sitofp .f32 0#32 : Ideal .f32) = (0 : EReal) := by
  show ((((0#32 : BitVec 32).toInt : ℤ) : ℝ) : EReal) = 0
  simp

variable (m : (ℓ : Loc nD τ sig) → Buf (Elt Ideal) ℓ) (ρ : Dev nD → PrngReg)

/-- Which block of its array each window shows at each point. -/
theorem idx : ∀ t : Fin cfg0.N,
    win0_0.index t = ![t.val / 4, 64 + 3 * (t.val % 4)] ∧ win0_1.index t = ![0, 0] ∧ win0_2.index t = ![0, 0] ∧ win0_3.index t = ![0, 0]
      ∧ win0_4.index t = ![0, 0] ∧ win0_5.index t = ![0, 0] ∧ win0_6.index t = ![0, 0]
      ∧ win0_7.index t = ![t.val / 4, t.val % 4, 0, 0] ∧ win0_8.index t = ![t.val / 4, t.val % 4, 0, 0] :=
  (by decide +kernel : ∀ t : Fin grid0.N, _)

/-- The block of the projection at a point: the keys' and the values' columns of a head side by side. -/
theorem block_x (c : Dev nD) (t : Fin cfg0.N) (e : Fin 2048) (n : Fin 128) (b : Fin 8) (g : Fin 4) (hb : b.val = t.val / 4)
    (hg : g.val = t.val % 4) :
    (iblk m c 0 t : FVec Ideal S2048x128 .bf16) (ix2 e n)
      = (m ((c : Thread nD τ).loc main_arg0) : FVec Ideal S8x2048x10064 .f32)
          (ix3 b e ⟨4384 + n.val / 64 * 256 + g.val * 64 + n.val % 64, by omega⟩) := by
  have hN : t.val < 32 := t.isLt.trans_eq N_0
  blk_simp [iblk, V]
  rw [show (win0_0.blk t).view.emb (ix2 e n) = ix2 (⟨t.val / 4 * 2048 + e.val, by omega⟩ : Fin 16384) (⟨(64 + 3 * (t.val % 4)) * 128 + n.val, by omega⟩ : Fin 10240) from by blk_ext [idx t]]
  after_reads_simp
  pointwise
  rw [dif_neg (by omega), dif_neg (by omega), dif_neg (by omega), dif_pos (by omega)]
  generalize hq : (⟨(64 + 3 * (t.val % 4)) * 128 + n.val - 3072 - 1024 - 4096, _⟩ : Fin 1536) = q
  generalize hr : (⟨t.val / 4 * 2048 + e.val, _⟩ : Fin 16384) = r
  after_reads_at
  subst hq hr
  exact congrArg (m (c, Proc.tc.devRef main_arg0)) (same3 (by dsimp only; omega) (by dsimp only; omega) (by dsimp only; omega))

/-- The first half's positions. -/
theorem block_pa (c : Dev nD) (t : Fin cfg0.N) (e : Fin 2048) :
    (iblk m c 1 t : FVec Ideal S1x2048 .f32) (ix2 0 e) = positions (m ((c : Thread nD τ).loc main_arg1) : FVec Ideal S1x32x64 .f32) (m ((c : Thread nD τ).loc main_arg4) : FVec Ideal S1x32x64 .f32) ⟨e.val / 128, by omega⟩ ⟨e.val % 128, by omega⟩ := by
  blk_simp [iblk, V]
  rw [show (win0_1.blk t).view.emb (ix2 0 e) = ix2 0 e from by blk_ext [idx t]]
  unfold positions
  after_reads_simp
  pointwise
  by_cases hh : e.val % 128 < 64
  · rw [dif_pos hh, dif_pos (by first | omega | (dsimp only; omega))]
    after_reads_at
  · rw [dif_neg hh, dif_neg (by first | omega | (dsimp only; omega))]
    after_reads_at

/-- The second half's positions. -/
theorem block_pb (c : Dev nD) (t : Fin cfg0.N) (e : Fin 2048) :
    (iblk m c 2 t : FVec Ideal S1x2048 .f32) (ix2 0 e) = positions (m ((c : Thread nD τ).loc main_arg1) : FVec Ideal S1x32x64 .f32) (m ((c : Thread nD τ).loc main_arg4) : FVec Ideal S1x32x64 .f32) ⟨16 + e.val / 128, by omega⟩ ⟨e.val % 128, by omega⟩ := by
  blk_simp [iblk, V]
  rw [show (win0_2.blk t).view.emb (ix2 0 e) = ix2 0 e from by blk_ext [idx t]]
  unfold positions
  after_reads_simp
  pointwise
  by_cases hh : e.val % 128 < 64
  · rw [dif_pos hh, dif_pos (by first | omega | (dsimp only; omega))]
    after_reads_at
  · rw [dif_neg hh, dif_neg (by first | omega | (dsimp only; omega))]
    after_reads_at

/-- The first half's weights of the first layer. -/
theorem block_wa (c : Dev nD) (t : Fin cfg0.N) (e : Fin 2048) (n : Fin 128) :
    (iblk m c 3 t : FVec Ideal S2048x128 .bf16) (ix2 e n)
      = first (m ((c : Thread nD τ).loc main_arg2) : FVec Ideal S1x2048x64 .f32) (m ((c : Thread nD τ).loc main_arg5) : FVec Ideal S1x2048x64 .f32) ⟨e.val / 128, by omega⟩ ⟨e.val % 128, by omega⟩ n := by
  blk_simp [iblk, V]
  rw [show (win0_3.blk t).view.emb (ix2 e n) = ix2 e n from by blk_ext [idx t]]
  unfold first
  after_reads_at
  simp only [pad_zero]
  refine two_parts ⟨fun h => ⟨h.2.1, h.2.2⟩, fun h => ⟨by omega, h.1, h.2⟩⟩
    ⟨fun h => ⟨h.2.1.1, h.2.2.1⟩, fun h => ⟨by omega, ⟨h.1, by omega⟩, h.2, by omega⟩⟩ (fun h h' => ?_) (fun h h' => ?_)
  · rfl
  · rfl

/-- The second half's weights of the first layer. -/
theorem block_wb (c : Dev nD) (t : Fin cfg0.N) (e : Fin 2048) (n : Fin 128) :
    (iblk m c 4 t : FVec Ideal S2048x128 .bf16) (ix2 e n)
      = first (m ((c : Thread nD τ).loc main_arg2) : FVec Ideal S1x2048x64 .f32) (m ((c : Thread nD τ).loc main_arg5) : FVec Ideal S1x2048x64 .f32) ⟨16 + e.val / 128, by omega⟩ ⟨e.val % 128, by omega⟩ n := by
  blk_simp [iblk, V]
  rw [show (win0_4.blk t).view.emb (ix2 e n) = ix2 e n from by blk_ext [idx t]]
  unfold first
  after_reads_at
  simp only [pad_zero]
  refine two_parts ⟨fun h => ⟨h.2.1, h.2.2⟩, fun h => ⟨by omega, h.1, h.2⟩⟩
    ⟨fun h => ⟨h.2.1.1, h.2.2.1⟩, fun h => ⟨by omega, ⟨h.1, by omega⟩, h.2, by omega⟩⟩ (fun h h' => ?_) (fun h h' => ?_)
  · rfl
  · rfl

/-- The weights of the second layer. -/
theorem block_w (c : Dev nD) (t : Fin cfg0.N) (e n : Fin 128) :
    (iblk m c 5 t : FVec Ideal S128x128 .bf16) (ix2 e n) = second (m ((c : Thread nD τ).loc main_arg3) : FVec Ideal S1x64x64 .f32) (m ((c : Thread nD τ).loc main_arg6) : FVec Ideal S1x64x64 .f32) e n := by
  blk_simp [iblk, V]
  rw [show (win0_5.blk t).view.emb (ix2 e n) = ix2 e n from by blk_ext [idx t]]
  unfold second
  after_reads_at
  simp only [pad_zero]
  refine two_parts Iff.rfl ⟨fun h => ⟨h.1.1, h.2.1⟩, fun h => ⟨⟨h.1, by omega⟩, h.2, by omega⟩⟩ (fun h h' => ?_) (fun h h' => ?_)
  · rfl
  · rfl

/-- The scales of the keys' norm, in the first 64 lanes. -/
theorem block_g (c : Dev nD) (t : Fin cfg0.N) (n : Fin 128) (hn : n.val < 64) :
    (iblk m c 6 t : FVec Ideal S1x128 .f32) (ix2 0 n) = (m ((c : Thread nD τ).loc main_arg7) : FVec Ideal S1x3x64 .f32) (ix3 0 0 ⟨n.val, hn⟩) := by
  blk_simp [iblk, V]
  rw [show (win0_6.blk t).view.emb (ix2 0 n) = ix2 0 n from by blk_ext [idx t]]
  after_reads_simp
  pointwise
  rw [dif_pos hn]
  after_reads_at

end Cert.CmpIdeal.Block
-- ==== Proof.CmpSums.lean ====
/- What the compression kernel's blocks add up to: the two layers of the keys' network and of the values'. -/
module

public import proofs.«01_k».proof.Proof.CmpArray

@[expose] public section

set_option maxRecDepth 16384

noncomputable section

namespace Cert.CmpIdeal.Block

open Cert.CmpIdeal Cert.CmpIdeal.Gen Idealize.ShloMosaic Idealize.ShloMosaic.TcCoe Idealize.SL.Sem
open Idealize.ShloMosaic.Pipeline (Dat)

/-- A row and a lane are within the rows laid side by side. -/
theorem flat_lt {A B N : ℕ} (h : A * B = N) (r : Fin A) (l : Fin B) : r.val * B + l.val < N := by
  have h' : (r.val + 1) * B ≤ A * B := Nat.mul_le_mul_right B r.isLt
  have := l.isLt
  rw [Nat.add_mul, Nat.one_mul] at h'
  omega

/-- A sum over rows laid side by side is a sum of the rows' sums. -/
theorem sum_split {A B N : ℕ} (h : A * B = N) (f : Fin N → EReal) :
    ∑ e, f e = ∑ r : Fin A, ∑ l : Fin B, f ⟨r.val * B + l.val, flat_lt h r l⟩ := by
  subst h
  rw [← Equiv.sum_comp finProdFinEquiv f, Fintype.sum_prod_type]
  refine Finset.sum_congr rfl fun r _ => Finset.sum_congr rfl fun l _ => congrArg f (Fin.ext ?_)
  show l.val + B * r.val = r.val * B + l.val
  rw [Nat.mul_comm, Nat.add_comm]

/-- A sum of two equal halves. -/
theorem sum_halves {A : ℕ} (f : Fin (A + A) → EReal) :
    ∑ e, f e = (∑ l : Fin A, f ⟨l.val, by omega⟩) + ∑ l : Fin A, f ⟨A + l.val, by omega⟩ := Fin.sum_univ_add f

/-- The second half of a sum counts nothing where its weights are zeros. -/
theorem sum_low (f w : Fin 128 → EReal) (h : ∀ l : Fin 64, w ⟨64 + l.val, by omega⟩ = 0) :
    ∑ l, f l * w l = ∑ l : Fin 64, f ⟨l.val, by omega⟩ * w ⟨l.val, by omega⟩ := by
  rw [sum_halves (A := 64)]
  refine (congrArg₂ (· + ·) rfl (Finset.sum_eq_zero fun l _ => ?_)).trans (add_zero _)
  rw [h, mul_zero]

/-- The first half of a sum counts nothing where its weights are zeros. -/
theorem sum_high (f w : Fin 128 → EReal) (h : ∀ l : Fin 64, w ⟨l.val, by omega⟩ = 0) :
    ∑ l, f l * w l = ∑ l : Fin 64, f ⟨64 + l.val, by omega⟩ * w ⟨64 + l.val, by omega⟩ := by
  rw [sum_halves (A := 64)]
  refine (congrArg₂ (· + ·) (Finset.sum_eq_zero fun l _ => ?_) rfl).trans (zero_add _)
  rw [h, mul_zero]

/-- What the first layer of one of the two networks sums for block `s` of head `g` of batch `b`: 32 rows from row `16 s` on, which
wrap round at the end, the positions added, times the weights. The head's columns begin at `o + 64 g`. -/
def pre (x : FVec Ideal S8x2048x10064 .f32) (pe : FVec Ideal S1x32x64 .f32) (w : FVec Ideal S1x2048x64 .f32) (o : ℕ) (ho : o ≤ 4640)
    (b : Fin 8) (g : Fin 4) (s : Fin 128) (j : Fin 64) : EReal :=
  ∑ r : Fin 32, ∑ l : Fin 64,
    (x (ix3 b ⟨(s.val * 16 + r.val) % 2048, by omega⟩ ⟨o + g.val * 64 + l.val, by omega⟩) + pe (ix3 0 r l))
      * w (ix3 0 ⟨r.val * 64 + l.val, by omega⟩ j)

/-- The same sum as the kernel makes it, of both networks at once: the keys' in the first 64 lanes, the values' in the others. -/
def rows (x : FVec Ideal S8x2048x10064 .f32) (pk pv : FVec Ideal S1x32x64 .f32) (wk wv : FVec Ideal S1x2048x64 .f32)
    (b : Fin 8) (g : Fin 4) (s n : Fin 128) : EReal :=
  ∑ r : Fin 32, ∑ l : Fin 128,
    (x (ix3 b ⟨(s.val * 16 + r.val) % 2048, by omega⟩ ⟨4384 + l.val / 64 * 256 + g.val * 64 + l.val % 64, by omega⟩)
      + positions pk pv r l) * first wk wv r l n

/-- In the first 64 lanes it is the keys' sum. -/
theorem rows_low (x : FVec Ideal S8x2048x10064 .f32) (pk pv : FVec Ideal S1x32x64 .f32) (wk wv : FVec Ideal S1x2048x64 .f32)
    (b : Fin 8) (g : Fin 4) (s : Fin 128) (j : Fin 64) :
    rows x pk pv wk wv b g s ⟨j.val, by omega⟩ = pre x pk wk 4384 (by omega) b g s j := by
  unfold rows pre
  refine Finset.sum_congr rfl fun r _ => (sum_low _ _ fun l => ?_).trans (Finset.sum_congr rfl fun l _ => ?_)
  · unfold first
    rw [dif_neg (by dsimp only; omega), dif_neg (by dsimp only; omega), add_zero]
  · unfold first positions
    rw [dif_pos (show l.val < 64 from l.isLt), dif_pos (show l.val < 64 ∧ j.val < 64 from ⟨l.isLt, j.isLt⟩), dif_neg (by dsimp only; omega),
      add_zero]
    refine congrArg₂ (· * ·) (congrArg₂ (· + ·) (congrArg x (same3 rfl rfl ?_)) rfl) rfl
    show 4384 + l.val / 64 * 256 + g.val * 64 + l.val % 64 = 4384 + g.val * 64 + l.val
    omega

/-- In the others it is the values' sum. -/
theorem rows_high (x : FVec Ideal S8x2048x10064 .f32) (pk pv : FVec Ideal S1x32x64 .f32) (wk wv : FVec Ideal S1x2048x64 .f32)
    (b : Fin 8) (g : Fin 4) (s : Fin 128) (j : Fin 64) :
    rows x pk pv wk wv b g s ⟨64 + j.val, by omega⟩ = pre x pv wv 4640 (by omega) b g s j := by
  unfold rows pre
  refine Finset.sum_congr rfl fun r _ => (sum_high _ _ fun l => ?_).trans (Finset.sum_congr rfl fun l _ => ?_)
  · unfold first
    rw [dif_neg (by dsimp only; omega), dif_neg (by dsimp only; omega), add_zero]
  · unfold first positions
    rw [dif_neg (by dsimp only; omega), dif_neg (by dsimp only; omega), dif_pos (by dsimp only; omega), zero_add]
    refine congrArg₂ (· * ·) (congrArg₂ (· + ·) (congrArg x (same3 rfl rfl ?_)) (congrArg pv (same3 rfl rfl ?_)))
      (congrArg wv (same3 rfl ?_ ?_))
    · show 4384 + (64 + l.val) / 64 * 256 + g.val * 64 + (64 + l.val) % 64 = 4640 + g.val * 64 + l.val
      omega
    · show 64 + l.val - 64 = l.val
      omega
    · show r.val * 64 + (64 + l.val - 64) = r.val * 64 + l.val
      omega
    · show 64 + j.val - 64 = j.val
      omega

/-- The network's result: the second layer of the activations. -/
def net (x : FVec Ideal S8x2048x10064 .f32) (pe : FVec Ideal S1x32x64 .f32) (w : FVec Ideal S1x2048x64 .f32) (w' : FVec Ideal S1x64x64 .f32)
    (o : ℕ) (ho : o ≤ 4640) (b : Fin 8) (g : Fin 4) (s : Fin 128) (n : Fin 64) : EReal :=
  ∑ k : Fin 64, act (pre x pe w o ho b g s k) * w' (ix3 0 k n)

variable (m : (ℓ : Loc nD τ sig) → Buf (Elt Ideal) ℓ) (ρ : Dev nD → PrngReg)

/-- The keys' network on the memory's arguments. -/
abbrev keyNet (c : Dev nD) : Fin 8 → Fin 4 → Fin 128 → Fin 64 → EReal :=
  net (m ((c : Thread nD τ).loc main_arg0)) (m ((c : Thread nD τ).loc main_arg1)) (m ((c : Thread nD τ).loc main_arg2))
    (m ((c : Thread nD τ).loc main_arg3)) 4384 (by omega)

/-- The values' network on the memory's arguments. -/
abbrev valueNet (c : Dev nD) : Fin 8 → Fin 4 → Fin 128 → Fin 64 → EReal :=
  net (m ((c : Thread nD τ).loc main_arg0)) (m ((c : Thread nD τ).loc main_arg4)) (m ((c : Thread nD τ).loc main_arg5))
    (m ((c : Thread nD τ).loc main_arg6)) 4640 (by omega)

/-- The first layer's sum as a sum over the block's 32 rows. -/
theorem sums_rows (c : Dev nD) (t : Fin cfg0.N) (b : Fin 8) (g : Fin 4) (hb : b.val = t.val / 4) (hg : g.val = t.val % 4) (s n : Fin 128) :
    sums (iblk m c 0 t) (iblk m c 1 t) (iblk m c 2 t) (iblk m c 3 t) (iblk m c 4 t) s n
      = rows (m ((c : Thread nD τ).loc main_arg0)) (m ((c : Thread nD τ).loc main_arg1)) (m ((c : Thread nD τ).loc main_arg4))
          (m ((c : Thread nD τ).loc main_arg2)) (m ((c : Thread nD τ).loc main_arg5)) b g s n := by
  unfold rows
  rw [sum_halves (A := 16)]
  unfold sums half
  refine congrArg₂ (· + ·) ?_ ?_
  · rw [sum_split (A := 16) (B := 128) rfl]
    refine Finset.sum_congr rfl fun r _ => Finset.sum_congr rfl fun l _ => ?_
    rw [block_pa, block_wa]
    unfold gather
    rw [block_x m c t _ _ b g hb hg]
    have h1 : (r.val * 128 + l.val) / 128 = r.val := by omega
    have h2 : (r.val * 128 + l.val) % 128 = l.val := by omega
    refine congrArg₂ (· * ·) (congrArg₂ (· + ·) (congrArg _ (same3 rfl ?_ ?_)) ?_) ?_
    · show s.val * 16 + (r.val * 128 + l.val) / 128 = (s.val * 16 + r.val) % 2048
      omega
    · show 4384 + (r.val * 128 + l.val) % 128 / 64 * 256 + g.val * 64 + (r.val * 128 + l.val) % 128 % 64 = _
      rw [h2]
    · exact congrArg₂ _ (Fin.ext h1) (Fin.ext h2)
    · exact congrArg₂ (fun a b => first _ _ a b n) (Fin.ext h1) (Fin.ext h2)
  · rw [sum_split (A := 16) (B := 128) rfl]
    refine Finset.sum_congr rfl fun r _ => Finset.sum_congr rfl fun l _ => ?_
    rw [block_pb, block_wb]
    unfold gather
    rw [block_x m c t _ _ b g hb hg]
    have h1 : (r.val * 128 + l.val) / 128 = r.val := by omega
    have h2 : (r.val * 128 + l.val) % 128 = l.val := by omega
    refine congrArg₂ (· * ·) (congrArg₂ (· + ·) (congrArg _ (same3 rfl ?_ ?_)) ?_) ?_
    · show (s.val + 128 - 127) % 128 * 16 + (r.val * 128 + l.val) / 128 = (s.val * 16 + (16 + r.val)) % 2048
      omega
    · show 4384 + (r.val * 128 + l.val) % 128 / 64 * 256 + g.val * 64 + (r.val * 128 + l.val) % 128 % 64 = _
      rw [h2]
    · exact congrArg₂ _ (Fin.ext (congrArg (16 + ·) h1)) (Fin.ext h2)
    · exact congrArg₂ (fun a b => first _ _ a b n) (Fin.ext (congrArg (16 + ·) h1)) (Fin.ext h2)

/-- The block's result in the first 64 lanes is the keys' network's. -/
theorem comp_low (c : Dev nD) (t : Fin cfg0.N) (b : Fin 8) (g : Fin 4) (hb : b.val = t.val / 4) (hg : g.val = t.val % 4) (s : Fin 128)
    (n : Fin 64) :
    comp (iblk m c 0 t) (iblk m c 1 t) (iblk m c 2 t) (iblk m c 3 t) (iblk m c 4 t) (iblk m c 5 t) s ⟨n.val, by omega⟩
      = keyNet m c b g s n := by
  unfold comp keyNet net
  refine (sum_low _ _ fun l => ?_).trans (Finset.sum_congr rfl fun k _ => ?_)
  · rw [block_w]
    unfold second
    rw [dif_neg (by dsimp only; omega), dif_neg (by dsimp only; omega), add_zero]
  · rw [block_w, sums_rows m c t b g hb hg, rows_low]
    unfold second
    rw [dif_pos (show k.val < 64 ∧ n.val < 64 from ⟨k.isLt, n.isLt⟩), dif_neg (by dsimp only; omega), add_zero]

/-- In the others it is the values' network's. -/
theorem comp_high (c : Dev nD) (t : Fin cfg0.N) (b : Fin 8) (g : Fin 4) (hb : b.val = t.val / 4) (hg : g.val = t.val % 4) (s : Fin 128)
    (n : Fin 64) :
    comp (iblk m c 0 t) (iblk m c 1 t) (iblk m c 2 t) (iblk m c 3 t) (iblk m c 4 t) (iblk m c 5 t) s ⟨64 + n.val, by omega⟩
      = valueNet m c b g s n := by
  unfold comp valueNet net
  refine (sum_high _ _ fun l => ?_).trans (Finset.sum_congr rfl fun k _ => ?_)
  · rw [block_w]
    unfold second
    rw [dif_neg (by dsimp only; omega), dif_neg (by dsimp only; omega), add_zero]
  · rw [block_w, sums_rows m c t b g hb hg, rows_high]
    unfold second
    rw [dif_neg (by dsimp only; omega), dif_pos (by dsimp only; omega), zero_add]
    refine congrArg _ (congrArg _ (same3 rfl ?_ ?_))
    · show 64 + k.val - 64 = k.val
      omega
    · show 64 + n.val - 64 = n.val
      omega

/-- The sum of the first half's squares, as the kernel makes it, over the keys' network. -/
theorem squares_low (f : Fin 128 → EReal) (h : Fin 64 → EReal) (hf : ∀ n : Fin 64, f ⟨n.val, by omega⟩ = h n) :
    squares f = (∑ n, h n * h n) + ∑ n, (h n * h n - h n * h n) := by
  have part : ∀ u : EReal → EReal, (∑ x : Fin 128, if x.val < 64 then u (f x) else 0) = ∑ n, u (h n) := fun u => by
    rw [sum_halves (A := 64)]
    refine (congrArg₂ (· + ·) (Finset.sum_congr rfl fun n _ => ?_) (Finset.sum_eq_zero fun n _ => ?_)).trans (add_zero _)
    · rw [if_pos (show n.val < 64 from n.isLt), hf n]
    · exact if_neg (by dsimp only; omega)
  unfold squares
  exact congrArg₂ (· + ·) (part fun y => y * y) (part fun y => y * y - y * y)

/-- The keys the kernel returns: the network's result over the root of its mean square, scaled, in the first 64 lanes, zeros in the
others. -/
def keys (c : Dev nD) (b : Fin 8) (g : Fin 4) (s n : Fin 128) : EReal :=
  if h : n.val < 64 then
    keyNet m c b g s ⟨n.val, h⟩
      * Ideal.rsqrt (((∑ k, keyNet m c b g s k * keyNet m c b g s k)
            + ∑ k, (keyNet m c b g s k * keyNet m c b g s k - keyNet m c b g s k * keyNet m c b g s k))
          * Ideal.ofBits .f32 1015021568#32 + Ideal.ofBits .f32 897988541#32)
      * (m ((c : Thread nD τ).loc main_arg7) : FVec Ideal S1x3x64 .f32) (ix3 0 0 ⟨n.val, h⟩)
  else 0

/-- The values the kernel returns: zeros in the first 64 lanes, the network's result in the others. -/
def values (c : Dev nD) (b : Fin 8) (g : Fin 4) (s n : Fin 128) : EReal :=
  if h : n.val < 64 then 0 else valueNet m c b g s ⟨n.val - 64, by omega⟩

/-- The array of keys after the run. -/
theorem array_keys (c : Dev nD) : (dats m 0 c).arrAt 7 cfg0.N = fun i : S8x4x128x128.Idx => keys m c (i 0) (i 1) (i 2) (i 3) := by
  refine (dats m 0 c).arrAt_eq_of_covers 7 (fun i : S8x4x128x128.Idx => keys m c (i 0) (i 1) (i 2) (i 3)) (by decide +kernel)
    (fun t hf y => ?_) (Memref.isWhole_whole main_v48_0)
  obtain ⟨s, n, rfl⟩ : ∃ (s n : Fin 128), y = ix4 0 0 s n :=
    ⟨y 2, y 3, (eq_ix4 y).trans (congrArg₂ (fun a b => ix4 a b (y 2) (y 3)) (Subsingleton.elim (α := Fin 1) _ _) (Subsingleton.elim (α := Fin 1) _ _))⟩
  have hN : t.val < 32 := t.isLt.trans_eq N_0
  blk_simp
  rw [show (win0_7.blk t).view.emb (ix4 0 0 s n) = ix4 (⟨t.val / 4, by omega⟩ : Fin 8) (⟨t.val % 4, by omega⟩ : Fin 4) s n from by blk_ext [idx t]]
  refine (out_keys m c t s n).trans ?_
  show _ = keys m c ⟨t.val / 4, by omega⟩ ⟨t.val % 4, by omega⟩ s n
  unfold keys
  by_cases h : n.val < 64
  · rw [if_pos h, dif_pos h, squares_low _ _ (comp_low m c t ⟨t.val / 4, by omega⟩ ⟨t.val % 4, by omega⟩ rfl rfl s), block_g m c t n h,
      ← comp_low m c t ⟨t.val / 4, by omega⟩ ⟨t.val % 4, by omega⟩ rfl rfl s ⟨n.val, h⟩]
  · rw [if_neg h, dif_neg h]

/-- The array of values after the run. -/
theorem array_values (c : Dev nD) : (dats m 0 c).arrAt 8 cfg0.N = fun i : S8x4x128x128.Idx => values m c (i 0) (i 1) (i 2) (i 3) := by
  refine (dats m 0 c).arrAt_eq_of_covers 8 (fun i : S8x4x128x128.Idx => values m c (i 0) (i 1) (i 2) (i 3)) (by decide +kernel)
    (fun t hf y => ?_) (Memref.isWhole_whole main_v48_1)
  obtain ⟨s, n, rfl⟩ : ∃ (s n : Fin 128), y = ix4 0 0 s n :=
    ⟨y 2, y 3, (eq_ix4 y).trans (congrArg₂ (fun a b => ix4 a b (y 2) (y 3)) (Subsingleton.elim (α := Fin 1) _ _) (Subsingleton.elim (α := Fin 1) _ _))⟩
  have hN : t.val < 32 := t.isLt.trans_eq N_0
  blk_simp
  rw [show (win0_8.blk t).view.emb (ix4 0 0 s n) = ix4 (⟨t.val / 4, by omega⟩ : Fin 8) (⟨t.val % 4, by omega⟩ : Fin 4) s n from by blk_ext [idx t]]
  refine (out_values m c t s n).trans ?_
  show _ = values m c ⟨t.val / 4, by omega⟩ ⟨t.val % 4, by omega⟩ s n
  unfold values
  by_cases h : n.val < 64
  · rw [if_pos h, dif_pos h]
  · rw [if_neg h, dif_neg h, ← comp_high m c t ⟨t.val / 4, by omega⟩ ⟨t.val % 4, by omega⟩ rfl rfl s ⟨n.val - 64, by omega⟩]
    exact congrArg _ (Fin.ext (by dsimp only; omega))

end Cert.CmpIdeal.Block
-- ==== Proof.CmpRef.lean ====
/- What the compression's reference computes, read at an index over the extended reals: the two networks on the blocks of 32 rows. -/
module

public import proofs.«01_k».proof.Proof.CmpSums
public import proofs.«01_k».proof.Proof.Gen.CmpRefIdeal.Run

@[expose] public section

set_option maxRecDepth 16384

noncomputable section

namespace Cert.CmpRefIdeal.Block

open Cert.CmpRefIdeal Cert.CmpRefIdeal.Gen Idealize.ShloMosaic Idealize.ShloMosaic.TcCoe Idealize.SL.Sem
open Cert.CmpIdeal.Block (pre net act sum_split flat_lt)

/-- The projection's columns of the keys and values, by branch, kind, head and lane. -/
def columns (x : FVec Ideal S8x2048x10064 .f32) : FVec Ideal S8x2048x6x4x64 .f32 :=
  shapeCast S8x2048x6x4x64 (extractStridedSlice S8x2048x1536 ![0, 0, 4384] x slices_S8x2048x10064_S8x2048x1536_0_0_4384)
    shapeCasts_S8x2048x1536_S8x2048x6x4x64

/-- One kind's columns, their rows in strips of 16. -/
def strips (y : FVec Ideal S8x2048x1x4x64 .f32) : FVec Ideal S8x128x16x4x64 .f32 :=
  shapeCast S8x128x16x4x64 (shapeCast S8x2048x4x64 y shapeCasts_S8x2048x1x4x64_S8x2048x4x64) shapeCasts_S8x2048x4x64_S8x128x16x4x64

/-- The blocks: every strip and the one after it. -/
def blocks (z : FVec Ideal S8x128x16x4x64 .f32) : FVec Ideal S8x128x32x4x64 .f32 :=
  concatenate S8x128x32x4x64 2 [⟨S8x128x16x4x64, z⟩, ⟨S8x128x16x4x64, concatenate S8x128x16x4x64 1
      [⟨S8x127x16x4x64, extractStridedSlice S8x127x16x4x64 ![0, 1, 0, 0, 0] z slices_S8x128x16x4x64_S8x127x16x4x64_0_1_0_0_0⟩,
        ⟨S8x1x16x4x64, extractStridedSlice S8x1x16x4x64 ![0, 0, 0, 0, 0] z slices_S8x128x16x4x64_S8x1x16x4x64_0_0_0_0_0⟩]
      concatenates_S8x127x16x4x64_S8x1x16x4x64_S8x128x16x4x64_d1⟩] concatenates_S8x128x16x4x64_S8x128x16x4x64_S8x128x32x4x64_d2

/-- The first layer's sums of the blocks. -/
def hidden (u : FVec Ideal S8x128x32x4x64 .f32) (pe : FVec Ideal S1x32x64 .f32) (w : FVec Ideal S1x2048x64 .f32) : FVec Ideal S8x128x4x64 .f32 :=
  Host.dotGeneral dot_S8x128x4x2048_S2048x64_S8x128x4x64_3_0_012_1_n_n none (shapeCast S8x128x4x2048 (transpose S8x128x4x32x64 [0, 1, 3, 2, 4]
      (addf u (broadcastInDim S8x128x32x4x64 ![0, 1, 2, 3, 4] bcast_S1x1x32x1x64_S8x128x32x4x64_0_1_2_3_4
        (broadcastInDim S1x1x32x1x64 ![2, 3, 4] bcast_S32x1x64_S1x1x32x1x64_2_3_4 (broadcastInDim S32x1x64 ![0, 2] bcast_S32x64_S32x1x64_0_2
          (shapeCast S32x64 pe shapeCasts_S1x32x64_S32x64))))) transposes_S8x128x32x4x64_S8x128x4x32x64_0_1_3_2_4)
      shapeCasts_S8x128x4x32x64_S8x128x4x2048) (shapeCast S2048x64 w shapeCasts_S1x2048x64_S2048x64)

/-- The activation and the second layer. -/
def second (h : FVec Ideal S8x128x4x64 .f32) (w : FVec Ideal S1x64x64 .f32) : FVec Ideal S8x128x4x64 .f32 :=
  Host.dotGeneral dot_S8x128x4x64_S64x64_S8x128x4x64_3_0_012_1_n_n none
    (mulf h (mulf (broadcastInDim S8x128x4x64 ![] bcast_S_S8x128x4x64 (constant S_ .f32 0x3F000000#32))
      (addf (broadcastInDim S8x128x4x64 ![] bcast_S_S8x128x4x64 (constant S_ .f32 0x3F800000#32))
        (Host.tanh (mulf (broadcastInDim S8x128x4x64 ![] bcast_S_S8x128x4x64 (constant S_ .f32 0x3F4C422A#32))
          (addf h (mulf (broadcastInDim S8x128x4x64 ![] bcast_S_S8x128x4x64 (constant S_ .f32 0x3D372713#32)) (mulf (mulf h h) h))))))))
    (shapeCast S64x64 w shapeCasts_S1x64x64_S64x64)

/-- The columns at an index. -/
theorem columns_at (x : FVec Ideal S8x2048x10064 .f32) (b : Fin 8) (r : Fin 2048) (k : Fin 6) (g : Fin 4) (l : Fin 64) :
    columns x (ix5 b r k g l) = x (ix3 b r ⟨4384 + (k.val * 256 + g.val * 64 + l.val), by omega⟩) := by
  pointwise [columns]

/-- The strips at an index. -/
theorem strips_at (y : FVec Ideal S8x2048x1x4x64 .f32) (b : Fin 8) (s : Fin 128) (r : Fin 16) (g : Fin 4) (l : Fin 64) :
    strips y (ix5 b s r g l) = y (ix5 b ⟨s.val * 16 + r.val, by omega⟩ 0 g l) := by
  pointwise [strips]

/-- The blocks at an index: the strip of the row, or the one after it, the last strip's next being the first. -/
theorem blocks_at (z : FVec Ideal S8x128x16x4x64 .f32) (b : Fin 8) (s : Fin 128) (r : Fin 32) (g : Fin 4) (l : Fin 64) :
    blocks z (ix5 b s r g l) = z (ix5 b ⟨(s.val + r.val / 16) % 128, by omega⟩ ⟨r.val % 16, by omega⟩ g l) := by
  pointwise [blocks]
  have same : ∀ {s s' : Fin 128} {r r' : Fin 16}, s.val = s'.val → r.val = r'.val → z (ix5 b s r g l) = z (ix5 b s' r' g l) :=
    fun hs hr => by rw [Fin.ext hs, Fin.ext hr]
  by_cases h : r.val < 16
  · rw [dif_pos h]
    exact same (by dsimp only; omega) (by dsimp only; omega)
  · rw [dif_neg h]
    by_cases h' : s.val < 127
    · rw [dif_pos h']
      exact same (by dsimp only; omega) (by dsimp only; omega)
    · rw [dif_neg h']
      exact same (by dsimp only; omega) (by dsimp only; omega)

/-- The first layer's sum at an index. -/
theorem hidden_at (u : FVec Ideal S8x128x32x4x64 .f32) (pe : FVec Ideal S1x32x64 .f32) (w : FVec Ideal S1x2048x64 .f32) (b : Fin 8) (s : Fin 128)
    (g : Fin 4) (j : Fin 64) :
    hidden u pe w (ix4 b s g j) = ∑ e : Fin 2048, (u (ix5 b s ⟨e.val / 64, by omega⟩ g ⟨e.val % 64, by omega⟩)
        + pe (ix3 0 ⟨e.val / 64, by omega⟩ ⟨e.val % 64, by omega⟩)) * w (ix3 0 e j) := by
  pointwise [hidden]

/-- The second layer's result at an index. -/
theorem second_at (h : FVec Ideal S8x128x4x64 .f32) (w : FVec Ideal S1x64x64 .f32) (b : Fin 8) (s : Fin 128) (g : Fin 4) (n : Fin 64) :
    second h w (ix4 b s g n) = ∑ k : Fin 64, act (h (ix4 b s g k)) * w (ix3 0 k n) := by
  pointwise [second]
  refine Finset.sum_congr rfl fun k _ => congrArg (· * _) ?_
  unfold act
  rw [← mul_assoc, mul_comm (h (ix4 b s g k))]

/-- One kind's columns as blocks: the block's row is the projection's, the rows after the last being the first again. -/
theorem rows_at (x : FVec Ideal S8x2048x10064 .f32) (y : FVec Ideal S8x2048x1x4x64 .f32) (o : ℕ) (ho : o ≤ 4640)
    (hy : ∀ (b : Fin 8) (r : Fin 2048) (g : Fin 4) (l : Fin 64), y (ix5 b r 0 g l) = x (ix3 b r ⟨o + g.val * 64 + l.val, by omega⟩))
    (b : Fin 8) (s : Fin 128) (r : Fin 32) (g : Fin 4) (l : Fin 64) :
    blocks (strips y) (ix5 b s r g l) = x (ix3 b ⟨(s.val * 16 + r.val) % 2048, by omega⟩ ⟨o + g.val * 64 + l.val, by omega⟩) := by
  rw [blocks_at, strips_at, hy]
  refine congrArg x (congrArg (fun r => ix3 b r _) (Fin.ext ?_))
  show (s.val + r.val / 16) % 128 * 16 + r.val % 16 = (s.val * 16 + r.val) % 2048
  omega

/-- The network of one kind. -/
theorem network_at (x : FVec Ideal S8x2048x10064 .f32) (y : FVec Ideal S8x2048x1x4x64 .f32) (pe : FVec Ideal S1x32x64 .f32)
    (w : FVec Ideal S1x2048x64 .f32) (w' : FVec Ideal S1x64x64 .f32) (o : ℕ) (ho : o ≤ 4640)
    (hy : ∀ (b : Fin 8) (r : Fin 2048) (g : Fin 4) (l : Fin 64), y (ix5 b r 0 g l) = x (ix3 b r ⟨o + g.val * 64 + l.val, by omega⟩))
    (b : Fin 8) (s : Fin 128) (g : Fin 4) (n : Fin 64) :
    second (hidden (blocks (strips y)) pe w) w' (ix4 b s g n) = net x pe w w' o ho b g s n := by
  rw [second_at]
  unfold net pre
  refine Finset.sum_congr rfl fun k _ => congrArg (fun h => act h * _) ?_
  rw [hidden_at, sum_split (A := 32) (B := 64) rfl]
  refine Finset.sum_congr rfl fun r _ => Finset.sum_congr rfl fun l _ => ?_
  rw [rows_at x y o ho hy]
  have h1 : (⟨(r.val * 64 + l.val) / 64, by omega⟩ : Fin 32) = r := Fin.ext (by dsimp only; omega)
  have h2 : (⟨(r.val * 64 + l.val) % 64, by omega⟩ : Fin 64) = l := Fin.ext (by dsimp only; omega)
  have e : o + g.val * 64 + (r.val * 64 + l.val) % 64 = o + g.val * 64 + l.val := by omega
  have e' : (s.val * 16 + (r.val * 64 + l.val) / 64) % 2048 = (s.val * 16 + r.val) % 2048 := by omega
  simp only [h1, h2, e, e']

/-- The keys' columns. -/
def keyColumns (x : FVec Ideal S8x2048x10064 .f32) : FVec Ideal S8x2048x1x4x64 .f32 :=
  extractStridedSlice S8x2048x1x4x64 ![0, 0, 0, 0, 0] (columns x) slices_S8x2048x6x4x64_S8x2048x1x4x64_0_0_0_0_0

/-- The values' columns. -/
def valueColumns (x : FVec Ideal S8x2048x10064 .f32) : FVec Ideal S8x2048x1x4x64 .f32 :=
  extractStridedSlice S8x2048x1x4x64 ![0, 0, 1, 0, 0] (columns x) slices_S8x2048x6x4x64_S8x2048x1x4x64_0_0_1_0_0

/-- The keys' columns at an index. -/
theorem keyColumns_at (x : FVec Ideal S8x2048x10064 .f32) (b : Fin 8) (r : Fin 2048) (g : Fin 4) (l : Fin 64) :
    keyColumns x (ix5 b r 0 g l) = x (ix3 b r ⟨4384 + g.val * 64 + l.val, by omega⟩) := by
  unfold keyColumns
  generalize hc : columns x = y
  pointwise
  subst hc
  refine (columns_at x b r 0 g l).trans (congrArg x (congrArg (ix3 b r) (Fin.ext ?_)))
  show 4384 + (0 * 256 + g.val * 64 + l.val) = 4384 + g.val * 64 + l.val
  omega

/-- The values' columns at an index. -/
theorem valueColumns_at (x : FVec Ideal S8x2048x10064 .f32) (b : Fin 8) (r : Fin 2048) (g : Fin 4) (l : Fin 64) :
    valueColumns x (ix5 b r 0 g l) = x (ix3 b r ⟨4640 + g.val * 64 + l.val, by omega⟩) := by
  unfold valueColumns
  generalize hc : columns x = y
  pointwise
  subst hc
  refine (columns_at x b r 1 g l).trans (congrArg x (congrArg (ix3 b r) (Fin.ext ?_)))
  show 4384 + (1 * 256 + g.val * 64 + l.val) = 4640 + g.val * 64 + l.val
  omega

/-- The norm: each vector over the root of its mean square, scaled. -/
def norm (y : FVec Ideal S8x128x4x64 .f32) (g : FVec Ideal S1x3x64 .f32) : FVec Ideal S8x128x4x64 .f32 :=
  mulf (mulf y (broadcastInDim S8x128x4x64 ![0, 1, 2, 3] bcast_S8x128x4x1_S8x128x4x64_0_1_2_3 (Host.rsqrt (addf (Host.divf
      (broadcastInDim S8x128x4x1 ![0, 1, 2] bcast_S8x128x4_S8x128x4x1_0_1_2
        (Host.reduceAdd (mulf y y) (constant S_ .f32 0x00000000#32) reducesTo_S8x128x4x64_S8x128x4_d3 h_S_))
      (broadcastInDim S8x128x4x1 ![] bcast_S_S8x128x4x1 (constant S_ .f32 0x42800000#32)))
      (broadcastInDim S8x128x4x1 ![] bcast_S_S8x128x4x1 (constant S_ .f32 0x358637BD#32))))))
    (broadcastInDim S8x128x4x64 ![0, 1, 2, 3] bcast_S1x1x1x64_S8x128x4x64_0_1_2_3 (broadcastInDim S1x1x1x64 ![3] bcast_S64_S1x1x1x64_3
      (shapeCast S64 (extractStridedSlice S1x1x64 ![0, 0, 0] g slices_S1x3x64_S1x1x64_0_0_0) shapeCasts_S1x1x64_S64)))

/-- The norm at an index. -/
theorem norm_at (y : FVec Ideal S8x128x4x64 .f32) (g : FVec Ideal S1x3x64 .f32) (b : Fin 8) (s : Fin 128) (h : Fin 4) (n : Fin 64) :
    norm y g (ix4 b s h n)
      = y (ix4 b s h n) * Ideal.rsqrt (Ideal.div (∑ k : Fin 64, y (ix4 b s h k) * y (ix4 b s h k)) (Ideal.ofBits .f32 1115684864#32)
          + Ideal.ofBits .f32 897988541#32) * g (ix3 0 0 n) := by
  pointwise [norm]

/-- The keys in the first 64 lanes, zeros in the others. -/
def keyLanes (y : FVec Ideal S8x128x4x64 .f32) : FVec Ideal S8x4x128x128 .bf16 :=
  truncf .bf16 (concatenate S8x4x128x128 3 [⟨S8x4x128x64, transpose S8x4x128x64 [0, 2, 1, 3] y transposes_S8x128x4x64_S8x4x128x64_0_2_1_3⟩,
    ⟨S8x4x128x64, broadcastInDim S8x4x128x64 ![] bcast_S_S8x4x128x64 (constant S_ .f32 0x00000000#32)⟩]
    concatenates_S8x4x128x64_S8x4x128x64_S8x4x128x128_d3) bitsLt_bf16_f32

/-- Zeros in the first 64 lanes, the values in the others. -/
def valueLanes (y : FVec Ideal S8x128x4x64 .f32) : FVec Ideal S8x4x128x128 .bf16 :=
  truncf .bf16 (concatenate S8x4x128x128 3 [⟨S8x4x128x64, broadcastInDim S8x4x128x64 ![] bcast_S_S8x4x128x64 (constant S_ .f32 0x00000000#32)⟩,
    ⟨S8x4x128x64, transpose S8x4x128x64 [0, 2, 1, 3] y transposes_S8x128x4x64_S8x4x128x64_0_2_1_3⟩]
    concatenates_S8x4x128x64_S8x4x128x64_S8x4x128x128_d3) bitsLt_bf16_f32

/-- The lanes of the keys at an index. -/
theorem keyLanes_at (y : FVec Ideal S8x128x4x64 .f32) (b : Fin 8) (g : Fin 4) (s n : Fin 128) :
    keyLanes y (ix4 b g s n) = if h : n.val < 64 then y (ix4 b s g ⟨n.val, h⟩) else 0 := by
  pointwise [keyLanes]

/-- The lanes of the values at an index. -/
theorem valueLanes_at (y : FVec Ideal S8x128x4x64 .f32) (b : Fin 8) (g : Fin 4) (s n : Fin 128) :
    valueLanes y (ix4 b g s n) = if h : n.val < 64 then (0 : EReal) else y (ix4 b s g ⟨n.val - 64, by omega⟩) := by
  pointwise [valueLanes]

variable (m : (ℓ : Loc nD τ sig) → Buf (Elt Ideal) ℓ)

/-- The reference's keys. -/
theorem result_keys (c : Dev nD) :
    Value.res_main_v84 m c = keyLanes (norm (second (hidden (blocks (strips (keyColumns (m ((c.tc : Thread nD τ).loc main_arg0)))))
      (m ((c.tc : Thread nD τ).loc main_arg1)) (m ((c.tc : Thread nD τ).loc main_arg2))) (m ((c.tc : Thread nD τ).loc main_arg3)))
      (m ((c.tc : Thread nD τ).loc main_arg7))) := by
  unfold Value.res_main_v84 keyLanes norm second hidden blocks strips keyColumns columns
  rfl

/-- The reference's values. -/
theorem result_values (c : Dev nD) :
    Value.res_main_v85 m c = valueLanes (second (hidden (blocks (strips (valueColumns (m ((c.tc : Thread nD τ).loc main_arg0)))))
      (m ((c.tc : Thread nD τ).loc main_arg4)) (m ((c.tc : Thread nD τ).loc main_arg5))) (m ((c.tc : Thread nD τ).loc main_arg6))) := by
  unfold Value.res_main_v85 valueLanes second hidden blocks strips valueColumns columns
  rfl

end Cert.CmpRefIdeal.Block
-- ==== Proof.CmpFinite.lean ====
/- Numbers that are no infinities: the compression's precondition says so of what the keys are made of, and then so are the keys
   before their norm. -/
module

public import proofs.«01_k».proof.Defs
public import proofs.«01_k».proof.Proof.CmpSums
public import proofs.«01_k».proof.Proof.Gen.Pre_finite_keys

@[expose] public section

set_option maxRecDepth 16384

noncomputable section

namespace Cert.CmpIdeal.Block

open Cert.CmpIdeal Cert.CmpIdeal.Gen Idealize.ShloMosaic Idealize.ShloMosaic.TcCoe Idealize.SL.Sem

/-- The number is a real one. -/
def IsReal (x : EReal) : Prop := ∃ r : ℝ, x = (r : EReal)

/-- A sum of two reals is real. -/
theorem IsReal.add {x y : EReal} : IsReal x → IsReal y → IsReal (x + y) := by
  rintro ⟨r, rfl⟩ ⟨q, rfl⟩
  exact ⟨r + q, (EReal.coe_add r q).symm⟩

/-- A product of two reals is real. -/
theorem IsReal.mul {x y : EReal} : IsReal x → IsReal y → IsReal (x * y) := by
  rintro ⟨r, rfl⟩ ⟨q, rfl⟩
  exact ⟨r * q, (EReal.coe_mul r q).symm⟩

/-- A real's hyperbolic tangent is real. -/
theorem IsReal.tanh {x : EReal} : IsReal x → IsReal (Ideal.tanh x) := by
  rintro ⟨r, rfl⟩
  exact ⟨Real.tanh r, Ideal.tanh_coe r⟩

/-- A finite sum of reals is real. -/
theorem IsReal.sum {n : ℕ} {f : Fin n → EReal} (h : ∀ k, IsReal (f k)) : IsReal (∑ k, f k) :=
  Finset.sum_induction f IsReal (fun _ _ => IsReal.add) ⟨0, rfl⟩ fun k _ => h k

/-- A real less itself is nothing. -/
theorem IsReal.sub_self {x : EReal} : IsReal x → x - x = 0 := by
  rintro ⟨r, rfl⟩
  rw [← EReal.coe_sub, _root_.sub_self, EReal.coe_zero]

/-- A number whose magnitude is below the infinity is real. -/
theorem isReal_of_abs {x : EReal} (h : Ideal.cmp .olt (max x (-x)) (Ideal.ofBits .f32 0x7F800000#32) = 1#1) : IsReal x := by
  have top : Ideal.ofBits .f32 0x7F800000#32 = ⊤ := by simp [Ideal.ofBits, Ideal.ieee]
  rw [top] at h
  have lt : max x (-x) < ⊤ := by
    by_contra hn
    unfold Ideal.cmp at h
    simp only [hn, decide_false] at h
    exact absurd h (by decide)
  induction x using EReal.rec with
  | bot => exact absurd lt (by simp)
  | top => exact absurd lt (by simp)
  | coe r => exact ⟨r, rfl⟩

/-- A pattern whose exponent is not all ones is a real. -/
theorem isReal_bits (b : BitVec 32) (h : (b.extractLsb' 23 8).toNat ≠ 255) : IsReal (Ideal.ofBits .f32 b) := by
  unfold Ideal.ofBits Ideal.ieee
  dsimp only
  rw [if_neg (show ¬ (b.extractLsb' 23 8).toNat = 2 ^ 8 - 1 from h)]
  split <;> exact ⟨_, rfl⟩

/-- The activation of a real is real. -/
theorem IsReal.act {x : EReal} (h : IsReal x) : IsReal (act x) := by
  unfold Block.act
  have one : IsReal (1 : EReal) := ⟨1, rfl⟩
  exact ((isReal_bits _ (by decide)).mul h).mul (one.add ((isReal_bits _ (by decide)).mul
    (h.add ((isReal_bits _ (by decide)).mul ((h.mul h).mul h)))).tanh)

/-- The network of reals is real. -/
theorem net_real (x : FVec Ideal S8x2048x10064 .f32) (pe : FVec Ideal S1x32x64 .f32) (w : FVec Ideal S1x2048x64 .f32)
    (w' : FVec Ideal S1x64x64 .f32) (o : ℕ) (ho : o ≤ 4640)
    (hx : ∀ (b : Fin 8) (r : Fin 2048) (l : Fin 256), IsReal (x (ix3 b r ⟨o + l.val, by omega⟩))) (hp : ∀ i, IsReal (pe i))
    (hw : ∀ i, IsReal (w i)) (hw' : ∀ i, IsReal (w' i)) (b : Fin 8) (g : Fin 4) (s : Fin 128) (n : Fin 64) :
    IsReal (net x pe w w' o ho b g s n) := by
  unfold net pre
  refine IsReal.sum fun k => (IsReal.act (IsReal.sum fun r => IsReal.sum fun l => IsReal.mul (IsReal.add ?_ (hp _)) (hw _))).mul (hw' _)
  have e := hx b ⟨(s.val * 16 + r.val) % 2048, by omega⟩ ⟨g.val * 64 + l.val, by omega⟩
  simpa only [Nat.add_assoc] using e

/-- The keys' network is real where the precondition holds. -/
theorem keyNet_real (m : (ℓ : Loc nD τ sig) → Buf (Elt Ideal) ℓ) (h : Pre_CmpIdeal_finite_keys m) (c : Dev nD)
    (b : Fin 8) (g : Fin 4) (s : Fin 128) (n : Fin 64) : IsReal (keyNet m c b g s n) := by
  obtain ⟨h0, h1, h2, h3⟩ := h c
  refine net_real _ _ _ _ 4384 (by omega) (fun b r l => ?_) (fun i => isReal_of_abs (congrFun h1 i)) (fun i => isReal_of_abs (congrFun h2 i))
    (fun i => isReal_of_abs (congrFun h3 i)) b g s n
  have e := isReal_of_abs (congrFun h0 (ix3 b r l))
  pointwise at e
  exact e

/-- A sum of reals' squares as the kernel makes it: the part it adds for the rounding is nothing. -/
theorem squares_real (h : Fin 64 → EReal) (hr : ∀ n, IsReal (h n)) :
    (∑ n, h n * h n) + ∑ n, (h n * h n - h n * h n) = ∑ n, h n * h n := by
  rw [Finset.sum_eq_zero (f := fun n => h n * h n - h n * h n) fun n _ => IsReal.sub_self ((hr n).mul (hr n)), add_zero]

/-- Over 64 is times a 64th. -/
theorem over_64 (x : EReal) : x * Ideal.ofBits .f32 1015021568#32 = Ideal.div x (Ideal.ofBits .f32 1115684864#32) := by
  have h1 : Ideal.ofBits .f32 1015021568#32 = (((1 : ℝ) / 64 : ℝ) : EReal) := by
    simp [Ideal.ofBits, Ideal.ieee, -EReal.coe_mul]; norm_num
  have h2 : Ideal.ofBits .f32 1115684864#32 = ((64 : ℝ) : EReal) := by
    simp [Ideal.ofBits, Ideal.ieee, -EReal.coe_mul]; norm_num
  rw [h1, h2]
  unfold Ideal.div
  rw [if_neg (by exact_mod_cast (by norm_num : (64 : ℝ) ≠ 0)), ← EReal.coe_inv, one_div]

end Cert.CmpIdeal.Block
-- ==== Proof.CmpEq.lean ====
/- The compression kernel's two result arrays equal the reference's where what the keys are made of is finite: the keys normed by
   their mean square, and the values. -/
module

public import proofs.«01_k».proof.Defs
public import proofs.«01_k».proof.Proof.CmpRef
public import proofs.«01_k».proof.Proof.CmpFinite
public import Idealize.ShloMosaic.Lib.Tactic.CleanTypes

@[expose] public section

set_option maxRecDepth 16384

noncomputable section

namespace Cert.Proof

open Idealize.ShloMosaic Idealize.SL.Sem
open Cert.CmpIdeal.Block (net keyNet valueNet keyNet_real squares_real over_64)
open Cert.CmpRefIdeal.Block

/-- The reference's keys at an index, over the network's results. -/
theorem keys_at (x : FVec Ideal Cert.CmpRefIdeal.S8x2048x10064 .f32) (pe : FVec Ideal Cert.CmpRefIdeal.S1x32x64 .f32)
    (w : FVec Ideal Cert.CmpRefIdeal.S1x2048x64 .f32) (w' : FVec Ideal Cert.CmpRefIdeal.S1x64x64 .f32)
    (q : FVec Ideal Cert.CmpRefIdeal.S1x3x64 .f32) (b : Fin 8) (g : Fin 4) (s n : Fin 128) :
    keyLanes (norm (second (hidden (blocks (strips (keyColumns x))) pe w) w') q) (ix4 b g s n)
      = if h : n.val < 64 then
          net x pe w w' 4384 (by omega) b g s ⟨n.val, h⟩
            * Ideal.rsqrt (Ideal.div (∑ k : Fin 64, net x pe w w' 4384 (by omega) b g s k * net x pe w w' 4384 (by omega) b g s k)
                (Ideal.ofBits .f32 1115684864#32) + Ideal.ofBits .f32 897988541#32)
            * q (ix3 0 0 ⟨n.val, h⟩)
        else 0 := by
  rw [keyLanes_at]
  refine dite_congr rfl (fun h => ?_) fun _ => rfl
  simp only [norm_at, network_at x _ pe w w' 4384 (by omega) (keyColumns_at x)]

/-- The reference's values at an index, over the network's results. -/
theorem values_at (x : FVec Ideal Cert.CmpRefIdeal.S8x2048x10064 .f32) (pe : FVec Ideal Cert.CmpRefIdeal.S1x32x64 .f32)
    (w : FVec Ideal Cert.CmpRefIdeal.S1x2048x64 .f32) (w' : FVec Ideal Cert.CmpRefIdeal.S1x64x64 .f32)
    (b : Fin 8) (g : Fin 4) (s n : Fin 128) :
    valueLanes (second (hidden (blocks (strips (valueColumns x))) pe w) w') (ix4 b g s n)
      = if h : n.val < 64 then (0 : EReal) else net x pe w w' 4640 (by omega) b g s ⟨n.val - 64, by omega⟩ := by
  rw [valueLanes_at]
  refine dite_congr rfl (fun _ => rfl) fun h => ?_
  rw [network_at x _ pe w w' 4640 (by omega) (valueColumns_at x)]

/-- The kernel's keys at an index, where the network's results are real: the norm is by the mean of the squares. -/
theorem kernel_keys (m : (ℓ : Loc Cert.CmpIdeal.nD Cert.CmpIdeal.τ Cert.CmpIdeal.sig) → Buf (Elt Ideal) ℓ)
    (hp : Cert.Pre_CmpIdeal_finite_keys m) (c : Dev Cert.CmpIdeal.nD) (b : Fin 8) (g : Fin 4) (s n : Fin 128) :
    Cert.CmpIdeal.Block.keys m c b g s n
      = if h : n.val < 64 then
          keyNet m c b g s ⟨n.val, h⟩
            * Ideal.rsqrt (Ideal.div (∑ k : Fin 64, keyNet m c b g s k * keyNet m c b g s k)
                (Ideal.ofBits .f32 1115684864#32) + Ideal.ofBits .f32 897988541#32)
            * (m ((c.tc : Thread Cert.CmpIdeal.nD Cert.CmpIdeal.τ).loc Cert.CmpIdeal.main_arg7)) (ix3 0 0 ⟨n.val, h⟩)
        else (0 : EReal) := by
  unfold Cert.CmpIdeal.Block.keys
  rw [squares_real _ (keyNet_real m hp c b g s), over_64]

/-- The kernel's and the reference's results are equal on memories that agree on the arguments, the keys' being finite. -/
theorem cmp_equal : algebraic_CmpIdeal_CmpRefIdeal_pre_finite_keys := by
  intro m ρ m' ρ' hp hagree
  refine ⟨_, _, Cert.CmpIdeal.Value.run_blocks (F := Ideal) m ρ, ?_⟩
  refine (θ_run Cert.CmpRefIdeal.defs _ _).mono (fun _ h c => ⟨?_, ?_, (h c).2.2⟩) (Cert.CmpRefIdeal.Value.run (F := Ideal) m' ρ')
  · rw [(h c).1, Cert.CmpIdeal.Block.array_keys, result_keys]
    obtain ⟨e0, e1, e2, e3, e4, e5, e6, e7⟩ := hagree c
    refine funext fun i => ?_
    obtain ⟨b, g, s, n, rfl⟩ : ∃ (b : Fin 8) (g : Fin 4) (s n : Fin 128), i = ix4 b g s n := ⟨i 0, i 1, i 2, i 3, eq_ix4 i⟩
    refine (keys_at _ _ _ _ _ b g s n).trans (Eq.trans ?_ (kernel_keys m hp c b g s n).symm)
    rw [e0, e1, e2, e3, e7]
  · rw [(h c).2.1, Cert.CmpIdeal.Block.array_values, result_values]
    obtain ⟨e0, e1, e2, e3, e4, e5, e6, e7⟩ := hagree c
    refine funext fun i => ?_
    obtain ⟨b, g, s, n, rfl⟩ : ∃ (b : Fin 8) (g : Fin 4) (s n : Fin 128), i = ix4 b g s n := ⟨i 0, i 1, i 2, i 3, eq_ix4 i⟩
    refine (values_at _ _ _ _ b g s n).trans ?_
    rw [e0, e4, e5, e6]
    rfl

end Cert.Proof
-- ==== Proof.RwkvRef.lean ====
/- The reference of the recurrence: it runs to its end and leaves its arguments as they were. -/
module

public import proofs.«01_k».proof.Proof.Gen.RwkvRefIdeal.Run
public import Idealize.ShloMosaic.Lib.StableHlo.ReadAt
public import Idealize.ShloMosaic.PureOps.Ideal

@[expose] public section

set_option maxRecDepth 16384

noncomputable section

namespace Cert.RwkvRefIdeal.Value

open Cert.RwkvRefIdeal Cert.RwkvRefIdeal.Gen Idealize.ShloMosaic Idealize.ShloMosaic.TcCoe Idealize.SL.Sem
open Idealize.ShloMosaic.StableHlo

/-- The program's arguments. -/
abbrev arguments : List (Ref sig .tc) :=
  [main_arg0, main_arg1, main_arg2, main_arg3, main_arg4, main_arg5, main_arg6, main_arg7, main_arg8, main_arg9, main_arg10,
    main_arg11]

/-- The operations before the loop write no argument. -/
theorem before_keeps (V : Valuation τ sig (Elt Ideal)) :
    ∀ r ∈ arguments, afterL preI V (Proc.devRef .tc r) = V (Proc.devRef .tc r) := by
  intro r hr
  simp only [preI, afterL_cons, afterL_nil]
  fin_cases hr <;> after_reads_simp

/-- The operations after the loop write no argument. -/
theorem rest_keeps (V : Valuation τ sig (Elt Ideal)) :
    ∀ r ∈ arguments, afterL postI V (Proc.devRef .tc r) = V (Proc.devRef .tc r) := by
  intro r hr
  simp only [postI, afterL_cons, afterL_nil]
  fin_cases hr <;> after_reads_simp

/-- The loop's condition writes no argument. -/
theorem cond_keeps_arguments (V : Valuation τ sig (Elt Ideal)) :
    ∀ r ∈ arguments, after condOps V (Proc.devRef .tc r) = V (Proc.devRef .tc r) := by
  intro r hr
  fin_cases hr <;> after_reads_simp

/-- The loop's body writes no argument. -/
theorem body_keeps (V : Valuation τ sig (Elt Ideal)) :
    ∀ r ∈ arguments, afterL bodyI V (Proc.devRef .tc r) = V (Proc.devRef .tc r) := by
  intro r hr
  simp only [bodyI, afterL_cons, afterL_nil]
  fin_cases hr <;> after_reads_simp

/-- No trip of the loop writes an argument. -/
theorem trips_keep (W : Dev nD → Valuation τ sig (Elt Ideal)) (c : Dev nD) (r : Ref sig .tc) (hr : r ∈ arguments) :
    ∀ k, atTrip condOps bodyI W k c (Proc.devRef .tc r) = W c (Proc.devRef .tc r)
  | 0 => rfl
  | k + 1 => by rw [atTrip_succ, body_keeps _ r hr, cond_keeps_arguments _ r hr, trips_keep W c r hr k]

/-- At the program's end every argument is as it was. -/
theorem ends (m : (ℓ : Loc nD τ sig) → Buf (Elt Ideal) ℓ) (c : Dev nD) (r : Ref sig .tc) (hr : r ∈ arguments) :
    finalContents condOps preI bodyI postI 2048 m c (Proc.devRef .tc r) = m (c, Proc.devRef .tc r) := by
  rw [finalContents, rest_keeps _ r hr, cond_keeps_arguments _ r hr, trips_keep _ c r hr, entryContents, before_keeps _ r hr]

/-- No argument is a temporary of the program. -/
theorem arguments_unscoped : ∀ r ∈ arguments, (Proc.devRef .tc r : DevRef τ sig).isScoped = false := by decide

/-- The program runs to its end, where every argument is as it was. -/
theorem run_keeps (m : (ℓ : Loc nD τ sig) → Buf (Elt Ideal) ℓ) (ρ : Dev nD → PrngReg) :
    θ_run (defs (F := Ideal)) (onTc (τ := τ) (main (F := Ideal))) ⟨m, fun _ => 0, ρ⟩
      (fun r => ∀ (c : Dev nD), ∀ b ∈ arguments, r.2.mem ((c.tc : Thread nD τ).loc b) = m ((c.tc : Thread nD τ).loc b)) :=
  (θ_run defs _ _).mono (fun _ h c b hb => (h c b (arguments_unscoped b hb)).trans (ends m c b hb)) (run_fold m ρ)

end Cert.RwkvRefIdeal.Value
-- ==== Proof.lean ====
module

public import proofs.«01_k».proof.Defs
public import proofs.«01_k».proof.Proof.Gen.Mlp.Frame
public import proofs.«01_k».proof.Proof.Gen.MlpIdeal.Value
public import proofs.«01_k».proof.Proof.Gen.MlpRefIdeal.Run
public import proofs.«01_k».proof.Proof.Gen.Mop.Frame
public import proofs.«01_k».proof.Proof.Gen.MopIdeal.Value
public import proofs.«01_k».proof.Proof.Gen.MopRefIdeal.Run
public import proofs.«01_k».proof.Proof.Gen.Inp.Frame
public import proofs.«01_k».proof.Proof.Gen.InpIdeal.Value
public import proofs.«01_k».proof.Proof.Gen.InpRefIdeal.Run
public import proofs.«01_k».proof.Proof.Gen.Ada.Frame
public import proofs.«01_k».proof.Proof.Gen.AdaIdeal.Value
public import proofs.«01_k».proof.Proof.Gen.AdaRefIdeal.Run
public import proofs.«01_k».proof.Proof.Gen.Cmp.Frame
public import proofs.«01_k».proof.Proof.Gen.CmpIdeal.Value
public import proofs.«01_k».proof.Proof.Gen.CmpRefIdeal.Run
public import proofs.«01_k».proof.Proof.Gen.Rwkv.Frame
public import proofs.«01_k».proof.Proof.Gen.RwkvIdeal.Frame
public import proofs.«01_k».proof.Proof.Gen.RwkvRefIdeal.Run
public import proofs.«01_k».proof.Proof.Gen.Prep.Frame
public import proofs.«01_k».proof.Proof.Gen.PrepIdeal.Frame
public import proofs.«01_k».proof.Proof.Gen.PrepRefIdeal.Run
public import proofs.«01_k».proof.Proof.Gen.Pre_finite_keys
public import proofs.«01_k».proof.Proof.MlpEq
public import proofs.«01_k».proof.Proof.MopEq
public import proofs.«01_k».proof.Proof.InpEq
public import proofs.«01_k».proof.Proof.AdaEq
public import proofs.«01_k».proof.Proof.CmpEq
public import proofs.«01_k».proof.Proof.RwkvRef
public import Idealize.ShloMosaic.Adequacy
public import Idealize.ShloMosaic.Init
public import Idealize.ShloMosaic.Lib.Quiescent

@[expose] public section

noncomputable section

namespace Cert.Proof

open Idealize.ShloMosaic Idealize.SL.Sem

/-- The reference runs to its end, leaves its arguments as they were and no semaphore raised. -/
theorem quiescent_MlpRefIdeal : quiescent_MlpRefIdeal := fun m ρ _ =>
  (θ_run Cert.MlpRefIdeal.defs _ _).mono (fun r h => ⟨fun c => (h c).2, sem_eq_zero_of_no_sems (by decide) r.2⟩)
    (Cert.MlpRefIdeal.Value.run (F := Ideal) m ρ)

/-- The reference runs to its end, leaves its arguments as they were and no semaphore raised. -/
theorem quiescent_MopRefIdeal : quiescent_MopRefIdeal := fun m ρ _ =>
  (θ_run Cert.MopRefIdeal.defs _ _).mono (fun r h => ⟨fun c => (h c).2.2, sem_eq_zero_of_no_sems (by decide) r.2⟩)
    (Cert.MopRefIdeal.Value.run (F := Ideal) m ρ)

/-- The reference runs to its end, leaves its arguments as they were and no semaphore raised. -/
theorem quiescent_InpRefIdeal : quiescent_InpRefIdeal := fun m ρ _ =>
  (θ_run Cert.InpRefIdeal.defs _ _).mono (fun r h => ⟨fun c => (h c).2.2, sem_eq_zero_of_no_sems (by decide) r.2⟩)
    (Cert.InpRefIdeal.Value.run (F := Ideal) m ρ)

/-- The reference runs to its end, leaves its arguments as they were and no semaphore raised. -/
theorem quiescent_AdaRefIdeal : quiescent_AdaRefIdeal := fun m ρ _ =>
  (θ_run Cert.AdaRefIdeal.defs _ _).mono (fun r h => ⟨fun c => (h c).2, sem_eq_zero_of_no_sems (by decide) r.2⟩)
    (Cert.AdaRefIdeal.Value.run (F := Ideal) m ρ)

/-- The reference runs to its end, leaves its arguments as they were and no semaphore raised. -/
theorem quiescent_CmpRefIdeal : quiescent_CmpRefIdeal := fun m ρ _ =>
  (θ_run Cert.CmpRefIdeal.defs _ _).mono (fun r h => ⟨fun c => (h c).2.2, sem_eq_zero_of_no_sems (by decide) r.2⟩)
    (Cert.CmpRefIdeal.Value.run (F := Ideal) m ρ)

/-- The reference runs to its end, leaves its arguments as they were and no semaphore raised. -/
theorem quiescent_RwkvRefIdeal : quiescent_RwkvRefIdeal := fun m ρ _ =>
  (θ_run Cert.RwkvRefIdeal.defs _ _).mono (fun r h =>
      ⟨fun c => ⟨h c _ (by decide), h c _ (by decide), h c _ (by decide), h c _ (by decide), h c _ (by decide), h c _ (by decide),
        h c _ (by decide), h c _ (by decide), h c _ (by decide), h c _ (by decide), h c _ (by decide), h c _ (by decide)⟩,
      sem_eq_zero_of_no_sems (by decide) r.2⟩)
    (Cert.RwkvRefIdeal.Value.run_keeps m ρ)

/-- The reference runs to its end, leaves its arguments as they were and no semaphore raised. -/
theorem quiescent_PrepRefIdeal : quiescent_PrepRefIdeal := fun m ρ _ =>
  (θ_run Cert.PrepRefIdeal.defs _ _).mono (fun r h => ⟨fun c => (h c).2.2.2.2.2.2, sem_eq_zero_of_no_sems (by decide) r.2⟩)
    (Cert.PrepRefIdeal.Value.run (F := Ideal) m ρ)

/-- All claims together. -/
theorem claim : Cert.Claim := ⟨Cert.Mlp.Gen.facts, Cert.MlpIdeal.Gen.facts, Cert.MlpRefIdeal.Gen.facts, Cert.Mop.Gen.facts, Cert.MopIdeal.Gen.facts, Cert.MopRefIdeal.Gen.facts, Cert.Inp.Gen.facts, Cert.InpIdeal.Gen.facts, Cert.InpRefIdeal.Gen.facts, Cert.Ada.Gen.facts, Cert.AdaIdeal.Gen.facts, Cert.AdaRefIdeal.Gen.facts, Cert.Cmp.Gen.facts, Cert.CmpIdeal.Gen.facts, Cert.CmpRefIdeal.Gen.facts, Cert.Rwkv.Gen.facts, Cert.RwkvIdeal.Gen.facts, Cert.RwkvRefIdeal.Gen.facts, Cert.Prep.Gen.facts, Cert.PrepIdeal.Gen.facts, Cert.PrepRefIdeal.Gen.facts, Cert.Pre_finite_keys.Gen.facts,
  fun m ρ _ => Cert.Mlp.Gen.frame m ρ, fun m ρ _ => Cert.MlpIdeal.Gen.frame m ρ, quiescent_MlpRefIdeal,
  fun m ρ _ => Cert.Mop.Gen.frame m ρ, fun m ρ _ => Cert.MopIdeal.Gen.frame m ρ, quiescent_MopRefIdeal,
  fun m ρ _ => Cert.Inp.Gen.frame m ρ, fun m ρ _ => Cert.InpIdeal.Gen.frame m ρ, quiescent_InpRefIdeal,
  fun m ρ _ => Cert.Ada.Gen.frame m ρ, fun m ρ _ => Cert.AdaIdeal.Gen.frame m ρ, quiescent_AdaRefIdeal,
  fun m ρ _ => Cert.Cmp.Gen.frame m ρ, fun m ρ _ => Cert.CmpIdeal.Gen.frame m ρ, fun m ρ _ => Cert.CmpIdeal.Gen.frame m ρ,
  quiescent_CmpRefIdeal, fun m ρ _ => quiescent_CmpRefIdeal m ρ trivial,
  fun m ρ _ => Cert.Rwkv.Gen.frame m ρ, fun m ρ _ => Cert.RwkvIdeal.Gen.frame m ρ, quiescent_RwkvRefIdeal,
  fun m ρ _ => Cert.Prep.Gen.frame m ρ, fun m ρ _ => Cert.PrepIdeal.Gen.frame m ρ, quiescent_PrepRefIdeal,
  (trivial : preserves_Mlp_MlpIdeal), mlp_equal,
  (trivial : preserves_Mop_MopIdeal), mop_equal,
  (trivial : preserves_Inp_InpIdeal), inp_equal,
  (trivial : preserves_Ada_AdaIdeal), ada_equal,
  (trivial : preserves_Cmp_CmpIdeal), cmp_equal,
  (trivial : preserves_Rwkv_RwkvIdeal), (trivial : preserves_Prep_PrepIdeal)⟩

end Cert.Proof

end
